-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.Statement Cert.KernelIdeal.S1x8x2x128 Cert.KernelIdeal.S1x8x1x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S240x2x120x256 : Shape := ⟨4, ![240, 2, 120, 256]⟩
abbrev S240x2x256 : Shape := ⟨3, ![240, 2, 256]⟩
abbrev S6x240x2x120x30 : Shape := ⟨5, ![6, 240, 2, 120, 30]⟩
abbrev S6x240x30x2x120 : Shape := ⟨5, ![6, 240, 30, 2, 120]⟩
abbrev S6x14400x120 : Shape := ⟨3, ![6, 14400, 120]⟩
abbrev S6x28800x128 : Shape := ⟨3, ![6, 28800, 128]⟩
abbrev S4x2x120x256 : Shape := ⟨4, ![4, 2, 120, 256]⟩
abbrev S4x2x256 : Shape := ⟨3, ![4, 2, 256]⟩
abbrev S6x240x128 : Shape := ⟨3, ![6, 240, 128]⟩
abbrev S6x480x128 : Shape := ⟨3, ![6, 480, 128]⟩
abbrev S120x256 : Shape := ⟨2, ![120, 256]⟩
abbrev S1x1x120x256 : Shape := ⟨4, ![1, 1, 120, 256]⟩
abbrev S8x256 : Shape := ⟨2, ![8, 256]⟩
abbrev S128x256 : Shape := ⟨2, ![128, 256]⟩
abbrev S6x120x128 : Shape := ⟨3, ![6, 120, 128]⟩
abbrev S1x8x128 : Shape := ⟨3, ![1, 8, 128]⟩
abbrev S6x120x2x128 : Shape := ⟨4, ![6, 120, 2, 128]⟩
abbrev S1x8x2x128 : Shape := ⟨4, ![1, 8, 2, 128]⟩
abbrev S1x8x1x128 : Shape := ⟨4, ![1, 8, 1, 128]⟩
abbrev S8x128 : Shape := ⟨2, ![8, 128]⟩
abbrev S16x128 : Shape := ⟨2, ![16, 128]⟩
abbrev S384x128 : Shape := ⟨2, ![384, 128]⟩
abbrev S384x256 : Shape := ⟨2, ![384, 256]⟩
abbrev S1x1x256 : Shape := ⟨3, ![1, 1, 256]⟩
abbrev S1x256 : Shape := ⟨2, ![1, 256]⟩
abbrev S6x240x30x2x2x128 : Shape := ⟨6, ![6, 240, 30, 2, 2, 128]⟩
abbrev S6x240x2x2x128x30 : Shape := ⟨6, ![6, 240, 2, 2, 128, 30]⟩
abbrev S6x240x2x256x30 : Shape := ⟨5, ![6, 240, 2, 256, 30]⟩

abbrev nBuf : Space → Nat
  | .hbm => 16
  | .vmem => 12
  | .smem => 0
  | _ => 0

abbrev bufTy : (tb : Table) → Fin (tcTables nBuf tb) → BufTy
  | .hbm, ⟨0, _⟩ => ⟨S240x2x120x256, .fp8e4m3⟩
  | .hbm, ⟨1, _⟩ => ⟨S240x2x256, .f32⟩
  | .hbm, ⟨2, _⟩ => ⟨S6x240x2x120x30, .bf16⟩
  | .hbm, ⟨3, _⟩ => ⟨S6x240x2x120x30, .bf16⟩
  | .hbm, ⟨4, _⟩ => ⟨S6x240x30x2x120, .bf16⟩
  | .hbm, ⟨5, _⟩ => ⟨S6x14400x120, .bf16⟩
  | .hbm, ⟨6, _⟩ => ⟨S6x240x30x2x120, .bf16⟩
  | .hbm, ⟨7, _⟩ => ⟨S6x14400x120, .bf16⟩
  | .hbm, ⟨8, _⟩ => ⟨S6x28800x128, .f32⟩
  | .hbm, ⟨9, _⟩ => ⟨S6x28800x128, .f32⟩
  | .hbm, ⟨10, _⟩ => ⟨S6x240x30x2x2x128, .f32⟩
  | .hbm, ⟨11, _⟩ => ⟨S6x240x2x2x128x30, .f32⟩
  | .hbm, ⟨12, _⟩ => ⟨S6x240x2x256x30, .f32⟩
  | .hbm, ⟨13, _⟩ => ⟨S6x240x30x2x2x128, .f32⟩
  | .hbm, ⟨14, _⟩ => ⟨S6x240x2x2x128x30, .f32⟩
  | .hbm, ⟨15, _⟩ => ⟨S6x240x2x256x30, .f32⟩
  | .local _ .vmem, ⟨0, _⟩ => ⟨S4x2x120x256, .fp8e4m3⟩
  | .local _ .vmem, ⟨1, _⟩ => ⟨S4x2x120x256, .fp8e4m3⟩
  | .local _ .vmem, ⟨2, _⟩ => ⟨S4x2x256, .f32⟩
  | .local _ .vmem, ⟨3, _⟩ => ⟨S4x2x256, .f32⟩
  | .local _ .vmem, ⟨4, _⟩ => ⟨S6x240x128, .bf16⟩
  | .local _ .vmem, ⟨5, _⟩ => ⟨S6x240x128, .bf16⟩
  | .local _ .vmem, ⟨6, _⟩ => ⟨S6x240x128, .bf16⟩
  | .local _ .vmem, ⟨7, _⟩ => ⟨S6x240x128, .bf16⟩
  | .local _ .vmem, ⟨8, _⟩ => ⟨S6x480x128, .f32⟩
  | .local _ .vmem, ⟨9, _⟩ => ⟨S6x480x128, .f32⟩
  | .local _ .vmem, ⟨10, _⟩ => ⟨S6x480x128, .f32⟩
  | .local _ .vmem, ⟨11, _⟩ => ⟨S6x480x128, .f32⟩
  | _, _ => ⟨S240x2x120x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨1, ![60], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x2x120x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6x240x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6x240x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6x480x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6x480x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F]
-- ==== ReferenceIdeal.lean ====
abbrev S240x2x120x256 : Shape := ⟨4, ![240, 2, 120, 256]⟩
abbrev S240x2x256 : Shape := ⟨3, ![240, 2, 256]⟩
abbrev S6x240x2x120x30 : Shape := ⟨5, ![6, 240, 2, 120, 30]⟩
abbrev S240 : Shape := ⟨1, ![240]⟩
abbrev S240x1x1 : Shape := ⟨3, ![240, 1, 1]⟩
abbrev S2 : Shape := ⟨1, ![2]⟩
abbrev S1x2x1 : Shape := ⟨3, ![1, 2, 1]⟩
abbrev S120 : Shape := ⟨1, ![120]⟩
abbrev S1x1x120 : Shape := ⟨3, ![1, 1, 120]⟩
abbrev S_ : Shape := ⟨0, ![]⟩
abbrev S240x1x120 : Shape := ⟨3, ![240, 1, 120]⟩
abbrev S240x2x120 : Shape := ⟨3, ![240, 2, 120]⟩
abbrev S240x2x120x1 : Shape := ⟨4, ![240, 2, 120, 1]⟩
abbrev S240x2x256x6x30 : Shape := ⟨5, ![240, 2, 256, 6, 30]⟩
abbrev S6x240x2x256x30 : Shape := ⟨5, ![6, 240, 2, 256, 30]⟩
abbrev S1x240x2x256x1 : Shape := ⟨5, ![1, 240, 2, 256, 1]⟩
abbrev S6x240x1x256x30 : Shape := ⟨5, ![6, 240, 1, 256, 30]⟩
abbrev S6x240x256x30 : Shape := ⟨4, ![6, 240, 256, 30]⟩

abbrev nBuf : Space → Nat
  | .hbm => 56
  | .vmem => 2
  | .smem => 0
  | _ => 0

abbrev bufTy : (tb : Table) → Fin (tcTables nBuf tb) → BufTy
  | .hbm, ⟨0, _⟩ => ⟨S240x2x120x256, .fp8e4m3⟩
  | .hbm, ⟨1, _⟩ => ⟨S240x2x256, .f32⟩
  | .hbm, ⟨2, _⟩ => ⟨S6x240x2x120x30, .bf16⟩
  | .hbm, ⟨3, _⟩ => ⟨S6x240x2x120x30, .bf16⟩
  | .hbm, ⟨4, _⟩ => ⟨S240x2x120x256, .bf16⟩
  | .hbm, ⟨5, _⟩ => ⟨S240, .i32⟩
  | .hbm, ⟨6, _⟩ => ⟨S240x1x1, .i32⟩
  | .hbm, ⟨7, _⟩ => ⟨S2, .i32⟩
  | .hbm, ⟨8, _⟩ => ⟨S1x2x1, .i32⟩
  | .hbm, ⟨9, _⟩ => ⟨S120, .i32⟩
  | .hbm, ⟨10, _⟩ => ⟨S1x1x120, .i32⟩
  | .hbm, ⟨11, _⟩ => ⟨S_, .i32⟩
  | .hbm, ⟨12, _⟩ => ⟨S1x1x120, .i32⟩
  | .hbm, ⟨13, _⟩ => ⟨S1x1x120, .i32⟩
  | .hbm, ⟨14, _⟩ => ⟨S240x1x120, .i32⟩
  | .hbm, ⟨15, _⟩ => ⟨S240x1x120, .i32⟩
  | .hbm, ⟨16, _⟩ => ⟨S240x1x120, .i32⟩
  | .hbm, ⟨17, _⟩ => ⟨S240x2x120, .i32⟩
  | .hbm, ⟨18, _⟩ => ⟨S240x2x120, .i32⟩
  | .hbm, ⟨19, _⟩ => ⟨S240x2x120, .i32⟩
  | .hbm, ⟨20, _⟩ => ⟨S_, .i32⟩
  | .hbm, ⟨21, _⟩ => ⟨S240x2x120, .i32⟩
  | .hbm, ⟨22, _⟩ => ⟨S240x2x120, .i1⟩
  | .hbm, ⟨23, _⟩ => ⟨S240x2x120x1, .i1⟩
  | .hbm, ⟨24, _⟩ => ⟨S_, .bf16⟩
  | .hbm, ⟨25, _⟩ => ⟨S240x2x120x256, .i1⟩
  | .hbm, ⟨26, _⟩ => ⟨S240x2x120x256, .bf16⟩
  | .hbm, ⟨27, _⟩ => ⟨S240x2x120x256, .bf16⟩
  | .hbm, ⟨28, _⟩ => ⟨S240x2x256x6x30, .f32⟩
  | .hbm, ⟨29, _⟩ => ⟨S6x240x2x256x30, .f32⟩
  | .hbm, ⟨30, _⟩ => ⟨S1x240x2x256x1, .f32⟩
  | .hbm, ⟨31, _⟩ => ⟨S6x240x2x256x30, .f32⟩
  | .hbm, ⟨32, _⟩ => ⟨S6x240x2x256x30, .f32⟩
  | .hbm, ⟨33, _⟩ => ⟨S6x240x1x256x30, .f32⟩
  | .hbm, ⟨34, _⟩ => ⟨S6x240x256x30, .f32⟩
  | .hbm, ⟨35, _⟩ => ⟨S6x240x1x256x30, .f32⟩
  | .hbm, ⟨36, _⟩ => ⟨S6x240x256x30, .f32⟩
  | .hbm, ⟨37, _⟩ => ⟨S6x240x256x30, .f32⟩
  | .hbm, ⟨38, _⟩ => ⟨S6x240x256x30, .f32⟩
  | .hbm, ⟨39, _⟩ => ⟨S6x240x1x256x30, .f32⟩
  | .hbm, ⟨40, _⟩ => ⟨S6x240x1x256x30, .f32⟩
  | .hbm, ⟨41, _⟩ => ⟨S6x240x2x256x30, .f32⟩
  | .hbm, ⟨42, _⟩ => ⟨S240x2x256x6x30, .f32⟩
  | .hbm, ⟨43, _⟩ => ⟨S6x240x2x256x30, .f32⟩
  | .hbm, ⟨44, _⟩ => ⟨S1x240x2x256x1, .f32⟩
  | .hbm, ⟨45, _⟩ => ⟨S6x240x2x256x30, .f32⟩
  | .hbm, ⟨46, _⟩ => ⟨S6x240x2x256x30, .f32⟩
  | .hbm, ⟨47, _⟩ => ⟨S6x240x1x256x30, .f32⟩
  | .hbm, ⟨48, _⟩ => ⟨S6x240x256x30, .f32⟩
  | .hbm, ⟨49, _⟩ => ⟨S6x240x1x256x30, .f32⟩
  | .hbm, ⟨50, _⟩ => ⟨S6x240x256x30, .f32⟩
  | .hbm, ⟨51, _⟩ => ⟨S6x240x256x30, .f32⟩
  | .hbm, ⟨52, _⟩ => ⟨S6x240x256x30, .f32⟩
  | .hbm, ⟨53, _⟩ => ⟨S6x240x1x256x30, .f32⟩
  | .hbm, ⟨54, _⟩ => ⟨S6x240x1x256x30, .f32⟩
  | .hbm, ⟨55, _⟩ => ⟨S6x240x2x256x30, .f32⟩
  | .local _ .vmem, ⟨0, _⟩ => ⟨S240x2x120x256, .fp8e4m3⟩
  | .local _ .vmem, ⟨1, _⟩ => ⟨S240x2x120x256, .bf16⟩
  | _, _ => ⟨S240x2x120x256, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S240x2x120x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S240x2x120x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.BodyKernel.lean ====
/-
  The kernel body of `Kernel`, run once at symbolic staging buffers: from the four input buffers at any contents
  and the two output buffers at any contents it returns, the inputs as they were, the outputs at the contents the run
  finds (`bodyRun`, the witness of the subtype).
-/
module

public import proofs.«01_k».proof.Proof.Gen.Kernel.Skeleton
public import proofs.«01_k».proof.Proof.Gen.Kernel.Frame
public import Idealize.ShloMosaic.Lib.Tactic

@[expose] public section

noncomputable section

namespace Cert.BodyKernel

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What the body leaves in the two output buffers, with the proof that it runs to its return and leaves that. -/
noncomputable def bodyRun (c : Dev nD) (i : grid0.Coords)
    (M1 : Memref sig .tc .vmem S4x2x120x256 .fp8e4m3) (h1 : M1.IsWhole) (M2 : Memref sig .tc .vmem S4x2x256 .f32) (h2 : M2.IsWhole)
    (M3 : Memref sig .tc .vmem S6x240x128 .bf16) (h3 : M3.IsWhole) (M4 : Memref sig .tc .vmem S6x240x128 .bf16) (h4 : M4.IsWhole)
    (M5 : Memref sig .tc .vmem S6x480x128 .f32) (h5 : M5.IsWhole) (M6 : Memref sig .tc .vmem S6x480x128 .f32) (h6 : M6.IsWhole)
    (f1 : Bf (F := F) c M1) (f2 : Bf (F := F) c M2) (f3 : Bf (F := F) c M3) (f4 : Bf (F := F) c M4)
    (f5 : Bf (F := F) c M5) (f6 : Bf (F := F) c M6) :
    { W : Bf (F := F) c M5 × Bf (F := F) c M6 //
      ∀ (E : Set ℕ) (Q : PUnit → sProp 𝕄),
        iprop(pt c M1 f1 ∗ pt c M2 f2 ∗ pt c M3 f3 ∗ pt c M4 f4 ∗ pt c M5 f5 ∗ pt c M6 f6
          ∗ (iprop(pt c M1 f1 ∗ pt c M2 f2 ∗ pt c M3 f3 ∗ pt c M4 f4 ∗ pt c M5 W.1 ∗ pt c M6 W.2) -∗ Q ⟨⟩))
        ⊢ wp frame (wpE (defs₀ (F := F)) Variants.none c none) E
            (cc0__body i M1 h1 M2 h2 M3 h3 M4 h4 M5 h5 M6 h6) Q } := by
  refine ⟨⟨?_, ?_⟩, fun E Q => ?run⟩
  case run =>
    iintro ⟨H1, H2, H3, H4, H5, H6, Hk⟩
    sl_exec_parts
    sl_step
    iapply Hk
    isplitl [H1]; · iexact H1
    isplitl [H2]; · iexact H2
    isplitl [H3]; · iexact H3
    isplitl [H4]; · iexact H4
    isplitl [H5]; · iexact H5
    iexact H6

end Cert.BodyKernel

end
-- ==== Proof.FrameKernel.lean ====
/-
  The frame of `Kernel`: at every grid point the body runs (`BodyKernel.bodyRun`), the four input staging buffers come
  back as they were, the two output buffers at contents the frame does not name (both windows forgotten); the library's
  launch theorem around the region does the rest.
-/
module

public import proofs.«01_k».proof.Proof.BodyKernel

@[expose] public section

noncomputable section

namespace Cert.FrameKernel

open Cert.Kernel Cert.Kernel.Gen Cert.BodyKernel

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose RDat)

variable {F : FTy → Type} [BitOps F]

local notation "𝕄" => MT nD τ sig Unit (Elt F) ℕ (UR sig nD τ) ℕ

/-- The body on owned whole memrefs. -/
theorem sound_body (c : Dev nD) (E : Set ℕ) (i : grid0.Coords)
    (M1 : Memref sig .tc .vmem S4x2x120x256 .fp8e4m3) (h1 : M1.IsWhole) (M2 : Memref sig .tc .vmem S4x2x256 .f32) (h2 : M2.IsWhole)
    (M3 : Memref sig .tc .vmem S6x240x128 .bf16) (h3 : M3.IsWhole) (M4 : Memref sig .tc .vmem S6x240x128 .bf16) (h4 : M4.IsWhole)
    (M5 : Memref sig .tc .vmem S6x480x128 .f32) (h5 : M5.IsWhole) (M6 : Memref sig .tc .vmem S6x480x128 .f32) (h6 : M6.IsWhole)
    (X1 : S4x2x120x256.Idx → Elt F .fp8e4m3) (X2 : S4x2x256.Idx → Elt F .f32) (X3 X4 : S6x240x128.Idx → Elt F .bf16)
    (X5 X6 : S6x480x128.Idx → Elt F .f32) (K : PUnit → sProp 𝕄) :
    iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6
        ∗ (iprop(owns (c : Thread nD τ) M1 fullShare X1 ∗ owns (c : Thread nD τ) M2 fullShare X2 ∗ owns (c : Thread nD τ) M3 fullShare X3
            ∗ owns (c : Thread nD τ) M4 fullShare X4 ∗ (∃ X, owns (c : Thread nD τ) M5 fullShare X)
            ∗ (∃ X, owns (c : Thread nD τ) M6 fullShare X)) -∗ K ⟨⟩))
      ⊢ wp frame (wpE (defs₀ (F := F)) Variants.none c none) E (cc0__body i M1 h1 M2 h2 M3 h3 M4 h4 M5 h5 M6 h6) K := by
  unfold owns
  rw [h1.set_eq_univ, h2.set_eq_univ, h3.set_eq_univ, h4.set_eq_univ, h5.set_eq_univ, h6.set_eq_univ]
  iintro ⟨⟨%f1, %e1, H1⟩, ⟨%f2, %e2, H2⟩, ⟨%f3, %e3, H3⟩, ⟨%f4, %e4, H4⟩, ⟨%f5, %e5, H5⟩, ⟨%f6, %e6, H6⟩, Hk⟩
  obtain ⟨⟨W5, W6⟩, hrun⟩ := bodyRun (F := F) c i M1 h1 M2 h2 M3 h3 M4 h4 M5 h5 M6 h6 f1 f2 f3 f4 f5 f6
  iapply (hrun E K)
  isplitl [H1]; · iexact H1
  isplitl [H2]; · iexact H2
  isplitl [H3]; · iexact H3
  isplitl [H4]; · iexact H4
  isplitl [H5]; · iexact H5
  isplitl [H6]; · iexact H6
  iintro ⟨H1, H2, H3, H4, H5, H6⟩
  iapply Hk
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists (M5.view.read (Elt F) W5); iexists W5; isplitr; · ipureintro; rfl
    iexact H5
  · iexists (M6.view.read (Elt F) W6); iexists W6; isplitr; · ipureintro; rfl
    iexact H6

variable (m : (ℓ : Loc nD τ sig) → Buf (Elt F) ℓ) (ρ : Dev nD → PrngReg)

/-- The proof data: the inputs' buffers left at their blocks (the two clipped ones filled out past the array's end with
    a word nothing reads), the outputs' at contents not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) (Pipeline.Dat.unnamed (cfg := cfg0) 2 t) (iblk m c 2 t)
    | ⟨3, _⟩ => win0_3.fill (grid0.coords t) (Pipeline.Dat.unnamed (cfg := cfg0) 3 t) (iblk m c 3 t)
    | ⟨4, _⟩ => Pipeline.Dat.unnamed (cfg := cfg0) 4 t
    | ⟨5, _⟩ => Pipeline.Dat.unnamed (cfg := cfg0) 5 t
  Φ _ := Pipeline.ΦA spec0 c
  q _ := fullShare
  owed _ := 0

/-- The windows whose contents the frame does not name: the two outputs. -/
abbrev fgt : Fin 6 → Bool := fun | 0 => false | 1 => false | 2 => false | 3 => false | 4 => true | 5 => true

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t
    = win0_2.fill (grid0.coords t) (Pipeline.Dat.unnamed (cfg := cfg0) 2 t) (iblk m c 2 t) := by dsimp only [dats]
theorem after_3 (c : Dev nD) (t : Fin cfg0.N) : (dats m 0 c).after 3 t
    = win0_3.fill (grid0.coords t) (Pipeline.Dat.unnamed (cfg := cfg0) 3 t) (iblk m c 3 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = win0_2.fill (grid0.coords t) d (iblk m c 2 t) := by
  unfold Dat.before; rw [if_pos (fetch0_2 t)]; rfl
theorem before_3 (c : Dev nD) (t : Fin cfg0.N) (d) : (dats m 0 c).before 3 t d = win0_3.fill (grid0.coords t) d (iblk m c 3 t) := by
  unfold Dat.before; rw [if_pos (fetch0_3 t)]; rfl

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligationLoose (dats (F := F) m 0 c) (defs₀ (F := F)) Variants.none () Set.univ fgt := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  have c2 : win0_2.cut (grid0.coords t) ((dats m 0 c).after 2 t) = iblk m c 2 t := by
    rw [after_2]; exact win0_2.cut_fill _ _ _
  have c3 : win0_3.cut (grid0.coords t) ((dats m 0 c).after 3 t) = iblk m c 3 t := by
    rw [after_3]; exact win0_3.cut_fill _ _ _
  iintro ⟨HΦ, Ho, ⟨%d0, H0⟩, ⟨%d1, H1⟩, ⟨%d2, H2⟩, ⟨%d3, H3⟩, ⟨%d4, H4⟩, ⟨%d5, H5⟩⟩
  rw [before_0 m c t d0, before_1 m c t d1, before_2 m c t d2, before_3 m c t d3]
  iapply (sound_body (F := F) c Set.univ (grid0.coords t) _ _ _ _ _ _ _ _ _ _ _ _ (iblk m c 0 t) (iblk m c 1 t)
    (win0_2.fill (grid0.coords t) d2 (iblk m c 2 t)) (win0_3.fill (grid0.coords t) d3 (iblk m c 3 t)) d4 d5 _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · rw [after_0]; iexact H0
  isplitl [H1]; · rw [after_1]; iexact H1
  isplitl [H2]
  · iexists d2
    change _ ⊢ owns (c : Thread nD τ) _ fullShare (win0_2.fill (grid0.coords t) d2 (win0_2.cut (grid0.coords t) ((dats m 0 c).after 2 t)))
    rw [c2]; try iexact H2
  isplitl [H3]
  · iexists d3
    change _ ⊢ owns (c : Thread nD τ) _ fullShare (win0_3.fill (grid0.coords t) d3 (win0_3.cut (grid0.coords t) ((dats m 0 c).after 3 t)))
    rw [c3]; try iexact H3
  isplitl [H4]; · iexact H4
  iexact H5

/-- The buffers the host lines after the region write. -/
abbrev T : Finset (Ref sig .tc) := {main_v5, main_v6, main_v7, main_v8, main_v9, main_v10}

theorem sfx_T : ∀ ops ∈ ([hostOps1] : List (List (HloOp τ sig (Elt F)))), ∀ op ∈ ops, ∀ b : Ref sig .tc,
    Proc.devRef .tc b ∈ op.writes → b ∈ T := by
  intro ops hops op hop b hb
  simp only [List.mem_cons, List.mem_nil_iff, or_false] at hops
  rcases hops with rfl
  simp only [hostOps1, List.mem_cons, List.mem_nil_iff, or_false] at hop
  rcases hop with rfl | rfl | rfl | rfl | rfl | rfl
  all_goals
    simp only [StableHlo.unary_writes, StableHlo.reshape_writes, Finset.mem_singleton] at hb
    have hb' := Proc.devRef_injective (p := .tc) hb
    subst hb'
    decide

set_option backward.isDefEq.respectTransparency.types false in
set_option maxHeartbeats 800000 in
theorem run_main : θ_run defs (onTc (τ := τ) (main (F := F))) (s₀ m ρ)
    (fun r => RDat.FramePostR cfg0 (fun c => (dats m 0 c).toRForget fgt) T (V m) r ∧ r.2.sem = fun _ => 0) :=
  Pipeline.θ_run_frame_around_T_forget (Q' := _) cfgs (dats m) (0 : Fin 1) launch0 defs₀ Variants.none fgt T m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hT := sfx_T) (hmain := hmain m Variants.none) (hA := A_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1.arr_in c 0 rfl).trans (V_main_arg0 m c), (h.1.arr_in c 1 rfl).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c)⟩, h.2⟩)
    (run_main m ρ)

end Cert.FrameKernel

end
-- ==== Proof.BodyIdeal.lean ====
/-
  The kernel body of `KernelIdeal`, run once at symbolic staging buffers: from the four input buffers at any contents
  and the two output buffers at any contents it returns, the inputs as they were, the outputs at the contents the run
  finds (`bodyRun`, the witness of the subtype).
-/
module

public import proofs.«01_k».proof.Proof.Gen.KernelIdeal.Skeleton
public import proofs.«01_k».proof.Proof.Gen.KernelIdeal.Frame
public import Idealize.ShloMosaic.Lib.Tactic

@[expose] public section

noncomputable section

namespace Cert.BodyIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What the body leaves in the two output buffers, with the proof that it runs to its return and leaves that. -/
noncomputable def bodyRun (c : Dev nD) (i : grid0.Coords)
    (M1 : Memref sig .tc .vmem S4x2x120x256 .fp8e4m3) (h1 : M1.IsWhole) (M2 : Memref sig .tc .vmem S4x2x256 .f32) (h2 : M2.IsWhole)
    (M3 : Memref sig .tc .vmem S6x240x128 .bf16) (h3 : M3.IsWhole) (M4 : Memref sig .tc .vmem S6x240x128 .bf16) (h4 : M4.IsWhole)
    (M5 : Memref sig .tc .vmem S6x480x128 .f32) (h5 : M5.IsWhole) (M6 : Memref sig .tc .vmem S6x480x128 .f32) (h6 : M6.IsWhole)
    (f1 : Bf (F := F) c M1) (f2 : Bf (F := F) c M2) (f3 : Bf (F := F) c M3) (f4 : Bf (F := F) c M4)
    (f5 : Bf (F := F) c M5) (f6 : Bf (F := F) c M6) :
    { W : Bf (F := F) c M5 × Bf (F := F) c M6 //
      ∀ (E : Set ℕ) (Q : PUnit → sProp 𝕄),
        iprop(pt c M1 f1 ∗ pt c M2 f2 ∗ pt c M3 f3 ∗ pt c M4 f4 ∗ pt c M5 f5 ∗ pt c M6 f6
          ∗ (iprop(pt c M1 f1 ∗ pt c M2 f2 ∗ pt c M3 f3 ∗ pt c M4 f4 ∗ pt c M5 W.1 ∗ pt c M6 W.2) -∗ Q ⟨⟩))
        ⊢ wp frame (wpE (defs₀ (F := F)) Variants.none c none) E
            (cc0__body i M1 h1 M2 h2 M3 h3 M4 h4 M5 h5 M6 h6) Q } := by
  refine ⟨⟨?_, ?_⟩, fun E Q => ?run⟩
  case run =>
    iintro ⟨H1, H2, H3, H4, H5, H6, Hk⟩
    sl_exec_parts
    sl_step
    iapply Hk
    isplitl [H1]; · iexact H1
    isplitl [H2]; · iexact H2
    isplitl [H3]; · iexact H3
    isplitl [H4]; · iexact H4
    isplitl [H5]; · iexact H5
    iexact H6

end Cert.BodyIdeal

end
-- ==== Proof.BodyForm.lean ====
/-
  What the body of `KernelIdeal` leaves in its two output buffers, in closed form: the 384 stores of an output buffer
  are one list comprehension over their number (`pieces`), and the value each stores a block of is one of eight (`hemi`):
  the sum and the difference of two products, for each of the four values of `m` a grid point covers.
-/
module

public import proofs.«01_k».proof.Proof.BodyIdeal

@[expose] public section

noncomputable section

namespace Cert.BodyForm

open Cert.KernelIdeal Cert.KernelIdeal.Gen Cert.BodyIdeal

open Idealize.ShloMosaic
open Idealize.ShloMosaic.TcCoe
open Idealize.SL Idealize.SL.RA

variable {F : FTy → Type} [FloatOps F]

/-! ## The operands -/

/-- Eight words of batch `b`, every second one from word `w` on, with the two rows of each. -/
abbrev wordRect (b : Fin 6) (w : Fin 106) : LoadRect S6x120x2x128 where
  off := ![b.val, w.val, 0, 0]
  size := S1x8x2x128.size
  stride := ![1, 2, 1, 1]
  inb := by
    have hb := b.isLt; have hw := w.isLt
    intro a; fin_cases a <;> simp [S1x8x2x128, S6x120x2x128] <;> omega

/-- Those words of a coefficient block, read through the block's reshape. -/
def words (c : Dev nD) (M : Memref sig .tc .vmem S6x240x128 .bf16) (h : M.IsWhole) (f : Bf (F := F) c M)
    (b : Fin 6) (w : Fin 106) : Vec F S1x8x2x128 .bf16 :=
  View.readAt (Elt F) (M.reshape S6x120x2x128 reshapes_S6x240x128_S6x120x2x128.1 reshapes_S6x240x128_S6x120x2x128.2
    h.contiguous).view (wordRect b w) f

/-- One parity of the rows of eight words. -/
def half (p : Fin 2) (v : Vec F S1x8x2x128 .bf16) : FVec F S8x128 .bf16 :=
  shapeCast S8x128 (shapeCast S1x8x128 (rowsOfParity p S1x8x1x128 v bitcasts_S1x8x2x128_w16_S1x8x1x128_w32)
    shapeCasts_S1x8x1x128_S1x8x128) shapeCasts_S1x8x128_S8x128

/-- Sixteen consecutive words' rows of parity `p`. -/
def tile (p : Fin 2) (v0 v1 : Vec F S1x8x2x128 .bf16) : FVec F S16x128 .bf16 :=
  interleaveRows S16x128 (half p v0) (half p v1) bitcasts_S16x128_w16_S8x128_w32

/-- The first word of tile `n` at `m`-offset `i`. -/
abbrev word0 (i : Fin 4) (n : Fin 24) : Fin 106 := ⟨30 * i.val + 14 * (n.val % 2), by omega⟩
abbrev word1 (i : Fin 4) (n : Fin 24) : Fin 106 := ⟨30 * i.val + 14 * (n.val % 2) + 1, by omega⟩
abbrev batch (n : Fin 24) : Fin 6 := ⟨n.val % 12 / 2, by omega⟩

/-- Tile `n` of the left operand: twelve tiles of the real part, then twelve of the imaginary part. -/
def tileAt (A : ℕ → Fin 6 → Fin 106 → Vec F S1x8x2x128 .bf16) (i : Fin 4) (p : Fin 2) (n : Fin 24) : FVec F S16x128 .bf16 :=
  tile p (A (n.val / 12) (batch n) (word0 i n)) (A (n.val / 12) (batch n) (word1 i n))

def lhs (A : ℕ → Fin 6 → Fin 106 → Vec F S1x8x2x128 .bf16) (i : Fin 4) (p : Fin 2) : FVec F S384x128 .bf16 :=
  select (cmpi .ult (iota .tc S384x128 32 [1] iota_S384x128_d1_w32) (broadcast S384x128 120#32))
    (concatenate S384x128 0 (List.ofFn fun n : Fin 24 => ⟨S16x128, tileAt A i p n⟩)
      concatenates_S16x128_S16x128_S16x128_S16x128_S16x128_S16x128_S16x128_S16x128_S16x128_S16x128_S16x128_S16x128_S16x128_S16x128_S16x128_S16x128_S16x128_S16x128_S16x128_S16x128_S16x128_S16x128_S16x128_S16x128_S384x128_d0)
    (broadcast S384x128 (Scalar.ofBits .bf16 0x0000#16 : F .bf16))

/-- `x / 2` rounded down, as it prints. -/
def floorHalf (x : BitVec 32) : BitVec 32 :=
  Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt 2#32 0#32)) (Scalar.extui (Scalar.cmpi .slt 2#32 0#32))))
      (Scalar.cmpi .ne (Scalar.remsi x 2#32) 0#32))
    (Scalar.subi (Scalar.divsi x 2#32) 1#32) (Scalar.divsi x 2#32)

/-- The number of valid degrees of parity `p` at `m`-offset `i` of grid point `t`. -/
def count (t : grid0.Coords) (i : Fin 4) (p : Fin 2) : BitVec 32 :=
  floorHalf (Scalar.addi (Scalar.subi (Scalar.subi 240#32 (Scalar.addi (Scalar.muli (BitVec.ofNat 32 (t 0).val) 4#32)
    (BitVec.ofNat 32 i.val))) (BitVec.ofNat 32 p.val)) 1#32)

abbrev codesRect (i : Fin 4) (p : Fin 2) : Rect S4x2x120x256 :=
  Rect.unit ![i.val, p.val, 0, 0] S1x1x120x256.size (by
    have hi := i.isLt; have hp := p.isLt
    intro a; fin_cases a <;> simp [S1x1x120x256, S4x2x120x256] <;> omega)

def rhs (nk : BitVec 32) (v : Vec F S1x1x120x256 .fp8e4m3) : FVec F S128x256 .bf16 :=
  concatenate S128x256 0
    [⟨S120x256, select (cmpi .slt (iota .tc S120x256 32 [0] iota_S120x256_d0_w32) (broadcast S120x256 nk))
      (extf .bf16 (shapeCast S120x256 v shapeCasts_S1x1x120x256_S120x256) bitsLt_fp8e4m3_bf16)
      (broadcast S120x256 (Scalar.ofBits .bf16 0x0000#16 : F .bf16))⟩,
     ⟨S8x256, broadcast S8x256 (Scalar.ofBits .bf16 0x0000#16 : F .bf16)⟩] concatenates_S120x256_S8x256_S128x256_d0

abbrev scaleRect (i : Fin 4) (p : Fin 2) : Rect S4x2x256 :=
  Rect.unit ![i.val, p.val, 0] S1x1x256.size (by
    have hi := i.isLt; have hp := p.isLt
    intro a; fin_cases a <;> simp [S1x1x256, S4x2x256] <;> omega)

/-- One parity's product, scaled. -/
def prod (l : FVec F S384x128 .bf16) (r : FVec F S128x256 .bf16) (s : Vec F S1x1x256 .f32) : FVec F S384x256 .f32 :=
  mulf (matmul dot_S384x128_S128x256_S384x256_1_0_0_1_n_n none l r (constant S384x256 .f32 0x00000000#32))
    (broadcastTo S384x256 (shapeCast S1x256 s shapeCasts_S1x1x256_S1x256) broadcasts_S1x256_S384x256)

section

variable (c : Dev nD) (t : grid0.Coords)
  (M1 : Memref sig .tc .vmem S4x2x120x256 .fp8e4m3) (M2 : Memref sig .tc .vmem S4x2x256 .f32)
  (M3 : Memref sig .tc .vmem S6x240x128 .bf16) (h3 : M3.IsWhole) (M4 : Memref sig .tc .vmem S6x240x128 .bf16) (h4 : M4.IsWhole)
  (f1 : Bf (F := F) c M1) (f2 : Bf (F := F) c M2) (f3 : Bf (F := F) c M3) (f4 : Bf (F := F) c M4)

/-- The words of the real part (`q = 0`) and of the imaginary part. -/
def coeffs (q : ℕ) : Fin 6 → Fin 106 → Vec F S1x8x2x128 .bf16 :=
  match q with
  | 0 => words c M3 h3 f3
  | _ + 1 => words c M4 h4 f4

def parity (i : Fin 4) (p : Fin 2) : FVec F S384x256 .f32 :=
  prod (lhs (coeffs c M3 h3 M4 h4 f3 f4) i p) (rhs (count t i p) (View.readAt (Elt F) M1.view (codesRect i p).toLoadRect f1))
    (View.readAt (Elt F) M2.view (scaleRect i p).toLoadRect f2)

/-- The value stored for hemisphere `h` of `m`-offset `i`. -/
def hemi (i : Fin 4) (h : ℕ) : FVec F S384x256 .f32 :=
  match h with
  | 0 => addf (parity c t M1 M2 M3 h3 M4 h4 f1 f2 f3 f4 i 0) (parity c t M1 M2 M3 h3 M4 h4 f1 f2 f3 f4 i 1)
  | _ + 1 => subf (parity c t M1 M2 M3 h3 M4 h4 f1 f2 f3 f4 i 0) (parity c t M1 M2 M3 h3 M4 h4 f1 f2 f3 f4 i 1)

/-- The values as the run names them. -/
def named (i h : ℕ) : FVec F S384x256 .f32 :=
  match i, h with
  | 0, 0 => bodyRun.sl.r_10 c t M1 M2 M3 h3 M4 h4 f1 f2 f3 f4
  | 0, _ + 1 => bodyRun.sl.r_11 c t M1 M2 M3 h3 M4 h4 f1 f2 f3 f4
  | 1, 0 => bodyRun.sl.r_31 c t M1 M2 M3 h3 M4 h4 f1 f2 f3 f4
  | 1, _ + 1 => bodyRun.sl.r_32 c t M1 M2 M3 h3 M4 h4 f1 f2 f3 f4
  | 2, 0 => bodyRun.sl.r_37 c t M1 M2 M3 h3 M4 h4 f1 f2 f3 f4
  | 2, _ + 1 => bodyRun.sl.r_38 c t M1 M2 M3 h3 M4 h4 f1 f2 f3 f4
  | _ + 3, 0 => bodyRun.sl.r_48 c t M1 M2 M3 h3 M4 h4 f1 f2 f3 f4
  | _ + 3, _ + 1 => bodyRun.sl.r_49 c t M1 M2 M3 h3 M4 h4 f1 f2 f3 f4

theorem named_eq (i : Fin 4) (h : Fin 2) :
    named c t M1 M2 M3 h3 M4 h4 f1 f2 f3 f4 i.val h.val = hemi c t M1 M2 M3 h3 M4 h4 f1 f2 f3 f4 i h.val := by
  match i, h with
  | 0, 0 => rfl
  | 0, 1 => rfl
  | 1, 0 => rfl
  | 1, 1 => rfl
  | 2, 0 => rfl
  | 2, 1 => rfl
  | 3, 0 => rfl
  | 3, 1 => rfl

end

/-! ## The stores -/

/-- Where store number `n` of an output buffer goes: eight rows, every fourth one. -/
abbrev storeRect (n : ℕ) : Rect S6x480x128 where
  off := ![n % 96 / 16, (30 * (n / 96 % 4) + 14 * (n % 16 / 8) + 8 * (n % 8 / 4)) * 4 + 2 * (n % 4 / 2) + n % 2, 0]
  size := S1x8x128.size
  stride := ![1, 4, 1]
  inb := by
    intro a; fin_cases a <;> simp [S1x8x128, S6x480x128] <;> omega
  stride_pos := by intro a; fin_cases a <;> simp

theorem store_slices (o : Fin 2) (n : ℕ) :
    S384x256.Slices ![16 * (12 * o.val + 2 * (n % 96 / 16) + n % 16 / 8) + 8 * (n % 8 / 4), 128 * (n % 4 / 2)] S8x128 := by
  have ho := o.isLt
  refine ⟨rfl, fun a => ?_⟩
  fin_cases a <;> simp [S8x128, S384x256] <;> omega

/-- Store number `n` of output `o`, of the values `H`. -/
def piece (H : ℕ → ℕ → FVec F S384x256 .f32) (o : Fin 2) (n : ℕ) : View.Piece (Elt F) S6x480x128 .f32 :=
  ⟨storeRect n, shapeCast S1x8x128 (extractStridedSlice S8x128 _ (H (n / 96 % 4) (n % 2)) (store_slices o n))
    shapeCasts_S8x128_S1x8x128⟩

/-- The first `n` stores, the last in front. -/
def pieces (H : ℕ → ℕ → FVec F S384x256 .f32) (o : Fin 2) : ℕ → List (View.Piece (Elt F) S6x480x128 .f32)
  | 0 => []
  | n + 1 => piece H o n :: pieces H o n

theorem mem_pieces (H : ℕ → ℕ → FVec F S384x256 .f32) (o : Fin 2) (N : ℕ) (p : View.Piece (Elt F) S6x480x128 .f32) :
    p ∈ pieces H o N ↔ ∃ n, n < N ∧ p = piece H o n := by
  induction N with
  | zero => simp [pieces]
  | succ N ih =>
    simp only [pieces, List.mem_cons, ih]
    constructor
    · rintro (rfl | ⟨n, hn, rfl⟩)
      · exact ⟨N, by omega, rfl⟩
      · exact ⟨n, by omega, rfl⟩
    · rintro ⟨n, hn, rfl⟩
      by_cases h : n = N
      · exact Or.inl (h ▸ rfl)
      · exact Or.inr ⟨n, by omega, rfl⟩

end Cert.BodyForm

end
-- ==== Proof.BodyStores.lean ====
/-
  The contents that the run of `KernelIdeal`'s body finds for its two output buffers are `BodyForm`'s stores.
-/
module

public import proofs.«01_k».proof.Proof.BodyForm

@[expose] public section

noncomputable section

namespace Cert.BodyForm

open Cert.KernelIdeal Cert.KernelIdeal.Gen Cert.BodyIdeal

open Idealize.ShloMosaic
open Idealize.ShloMosaic.TcCoe
open Idealize.SL Idealize.SL.RA

variable {F : FTy → Type} [FloatOps F]

section

variable (c : Dev nD) (t : grid0.Coords)
  (M1 : Memref sig .tc .vmem S4x2x120x256 .fp8e4m3) (M2 : Memref sig .tc .vmem S4x2x256 .f32)
  (M3 : Memref sig .tc .vmem S6x240x128 .bf16) (h3 : M3.IsWhole) (M4 : Memref sig .tc .vmem S6x240x128 .bf16) (h4 : M4.IsWhole)
  (f1 : Bf (F := F) c M1) (f2 : Bf (F := F) c M2) (f3 : Bf (F := F) c M3) (f4 : Bf (F := F) c M4)

variable (h1 : M1.IsWhole) (h2 : M2.IsWhole)
  (M5 : Memref sig .tc .vmem S6x480x128 .f32) (h5 : M5.IsWhole) (M6 : Memref sig .tc .vmem S6x480x128 .f32) (h6 : M6.IsWhole)
  (f5 : Bf (F := F) c M5) (f6 : Bf (F := F) c M6)

set_option maxHeartbeats 4000000 in
set_option maxRecDepth 16384 in
theorem bodyRun_fst : (bodyRun c t M1 h1 M2 h2 M3 h3 M4 h4 M5 h5 M6 h6 f1 f2 f3 f4 f5 f6).1.1
    = M5.view.writes (Elt F) f5 (pieces (named c t M1 M2 M3 h3 M4 h4 f1 f2 f3 f4) 0 384) := rfl

set_option maxHeartbeats 4000000 in
set_option maxRecDepth 16384 in
theorem bodyRun_snd : (bodyRun c t M1 h1 M2 h2 M3 h3 M4 h4 M5 h5 M6 h6 f1 f2 f3 f4 f5 f6).1.2
    = M6.view.writes (Elt F) f6 (pieces (named c t M1 M2 M3 h3 M4 h4 f1 f2 f3 f4) 1 384) := rfl

end

end Cert.BodyForm

end
-- ==== Proof.BodyValue.lean ====
/-
  The values of `BodyForm` read at an index, at the ideal instance: what a grid point leaves in an output buffer
  is one function of the blocks it reads (`blockOut`), element by element.
-/
module

public import proofs.«01_k».proof.Proof.BodyForm
public import Idealize.ShloMosaic.Lib.Pointwise

@[expose] public section

noncomputable section

namespace Cert.BodyValue

open Cert.KernelIdeal Cert.KernelIdeal.Gen Cert.BodyIdeal Cert.BodyForm

open Idealize.ShloMosaic
open Idealize.ShloMosaic.TcCoe
open Idealize.SL Idealize.SL.RA

/-! ## The left operand -/

theorem half_apply (p : Fin 2) (v : Vec Ideal S1x8x2x128 .bf16) (j : Fin 8) (l : Fin 128) :
    half p v (ix2 j l) = v (ix4 0 j p l) := by
  pointwise [half]

theorem tile_apply (p : Fin 2) (v0 v1 : Vec Ideal S1x8x2x128 .bf16) (j : Fin 16) (l : Fin 128) :
    tile p v0 v1 (ix2 j l) = if j.val % 2 = 0 then v0 (ix4 0 ⟨j.val / 2, by omega⟩ p l) else v1 (ix4 0 ⟨j.val / 2, by omega⟩ p l) := by
  pointwise [tile, half]

theorem words_apply (c : Dev nD) (M : Memref sig .tc .vmem S6x240x128 .bf16) (h : M.IsWhole) (f : Bf (F := Ideal) c M)
    (b : Fin 6) (w : Fin 106) (j : Fin 8) (p : Fin 2) (l : Fin 128) :
    words c M h f b w (ix4 0 j p l) = M.view.read (Elt Ideal) f (ix3 b ⟨2 * (w.val + 2 * j.val) + p.val, by omega⟩ l) := by
  show M.view.read (Elt Ideal) f (Shape.reshapeEquiv reshapes_S6x240x128_S6x120x2x128.1 ((wordRect b w).idx (ix4 0 j p l))) = _
  pointwise
  congr 2
  exact Fin.ext (by simp only; omega)

theorem select_ofBool {α : Type} (b : Bool) (x y : α) : Scalar.select (BitVec.ofBool b) x y = if b = true then x else y := by
  cases b <;> rfl

theorem slt_ofNat (x y : ℕ) (hx : x < 2 ^ 31) (hy : y < 2 ^ 31) :
    (BitVec.ofNat 32 x).slt (BitVec.ofNat 32 y) = decide (x < y) := by
  have ex : (BitVec.ofNat 32 x).toInt = x := by rw [BitVec.toInt_eq_toNat_of_lt] <;> rw [BitVec.toNat_ofNat] <;> omega
  have ey : (BitVec.ofNat 32 y).toInt = y := by rw [BitVec.toInt_eq_toNat_of_lt] <;> rw [BitVec.toNat_ofNat] <;> omega
  simp [BitVec.slt, ex, ey]

theorem ult_ofNat (x y : ℕ) (hx : x < 2 ^ 31) (hy : y < 2 ^ 31) :
    (BitVec.ofNat 32 x).ult (BitVec.ofNat 32 y) = decide (x < y) := by
  simp only [BitVec.ult, BitVec.toNat_ofNat]
  congr 1
  rw [Nat.mod_eq_of_lt (by omega), Nat.mod_eq_of_lt (by omega)]

theorem tiles_apply (A : ℕ → Fin 6 → Fin 106 → Vec Ideal S1x8x2x128 .bf16) (i : Fin 4) (p : Fin 2) (r : Fin 384) (l : Fin 128)
    (h : Shape.Concatenates ((List.ofFn fun n : Fin 24 => (⟨S16x128, tileAt A i p n⟩ : (s : Shape) × (s.Idx → Ideal .bf16))).map (·.1)) S384x128 0) :
    concatenate S384x128 0 (List.ofFn fun n : Fin 24 => ⟨S16x128, tileAt A i p n⟩) h (ix2 r l)
      = tileAt A i p ⟨r.val / 16, by omega⟩ (ix2 ⟨r.val % 16, by omega⟩ l) := by
  refine concatenate_ofFn_apply (t := S384x128) (s₁ := S16x128) (0 : Fin 2) (fun n => tileAt A i p n) h rfl 16 rfl (ix2 r l)
    ⟨r.val / 16, by omega⟩ rfl (ix2 ⟨r.val % 16, by omega⟩ l) rfl ?_
  intro a ha
  fin_cases a
  · exact absurd rfl ha
  · rfl

theorem lhs_apply (A : ℕ → Fin 6 → Fin 106 → Vec Ideal S1x8x2x128 .bf16) (i : Fin 4) (p : Fin 2) (r : Fin 384) (l : Fin 128) :
    lhs A i p (ix2 r l) = if l.val < 120 then tileAt A i p ⟨r.val / 16, by omega⟩ (ix2 ⟨r.val % 16, by omega⟩ l) else 0 := by
  rw [← tiles_apply A i p r l concatenates_S16x128_S16x128_S16x128_S16x128_S16x128_S16x128_S16x128_S16x128_S16x128_S16x128_S16x128_S16x128_S16x128_S16x128_S16x128_S16x128_S16x128_S16x128_S16x128_S16x128_S16x128_S16x128_S16x128_S16x128_S384x128_d0]
  unfold lhs
  generalize concatenate S384x128 _ _ _ = X
  pointwise
  rw [show IntOp.cmpi CmpIPredicate.ult (BitVec.ofNat 32 l.val) 120#32 = BitVec.ofBool ((BitVec.ofNat 32 l.val).ult (BitVec.ofNat 32 120)) from rfl,
    select_ofBool, ult_ofNat _ _ (by omega) (by omega)]
  simp only [decide_eq_true_eq]

/-! ## The right operand -/

theorem rhs_apply (nk : BitVec 32) (v : Vec Ideal S1x1x120x256 .fp8e4m3) (k : Fin 128) (tt : Fin 256) :
    rhs nk v (ix2 k tt) = if h : k.val < 120 then
      (if (BitVec.ofNat 32 k.val).slt nk then v (ix4 0 0 ⟨k.val, h⟩ tt) else 0) else 0 := by
  pointwise [rhs]
  rw [show IntOp.cmpi CmpIPredicate.slt (BitVec.ofNat 32 k.val) nk = BitVec.ofBool ((BitVec.ofNat 32 k.val).slt nk) from rfl]
  simp only [select_ofBool]

/-- The count is the number of degrees `2 k + p` that lie between `m` and `239`. -/
theorem count_eq (a : Fin 60) (i : Fin 4) (p : Fin 2) :
    floorHalf (Scalar.addi (Scalar.subi (Scalar.subi 240#32 (Scalar.addi (Scalar.muli (BitVec.ofNat 32 a.val) 4#32)
      (BitVec.ofNat 32 i.val))) (BitVec.ofNat 32 p.val)) 1#32) = BitVec.ofNat 32 ((241 - (4 * a.val + i.val) - p.val) / 2) := by
  revert a i p
  decide +kernel

theorem count_slt (t : grid0.Coords) (i : Fin 4) (p : Fin 2) (k : ℕ) (hk : k < 120) :
    (BitVec.ofNat 32 k).slt (count t i p) = decide (4 * (t 0).val + i.val + 2 * k + p.val ≤ 239) := by
  rw [show count t i p = _ from count_eq (t 0) i p, slt_ofNat _ _ (by omega) (by omega)]
  have h0 : (t 0).val < 60 := (t 0).isLt
  apply Bool.eq_iff_iff.mpr
  simp only [decide_eq_true_eq]
  omega

/-! ## The products -/

theorem prod_apply (l : FVec Ideal S384x128 .bf16) (r : FVec Ideal S128x256 .bf16) (s : Vec Ideal S1x1x256 .f32)
    (i : Fin 384) (tt : Fin 256) :
    prod l r s (ix2 i tt) = (∑ k : Fin 128, l (ix2 i k) * r (ix2 k tt)) * s (ix3 0 0 tt) := by
  pointwise [prod]

/-- A sum over 128 whose terms vanish from 120 on. -/
theorem sum_drop (f : Fin 128 → EReal) (h : ∀ k : Fin 128, 120 ≤ k.val → f k = 0) :
    ∑ k : Fin 128, f k = ∑ k : Fin 120, f ⟨k.val, by omega⟩ := by
  rw [Fin.sum_univ_add (a := 120) (b := 8) f]
  have : ∑ k : Fin 8, f (Fin.natAdd 120 k) = 0 := Finset.sum_eq_zero fun k _ => h _ (by simp)
  rw [this, add_zero]
  rfl

/-! ## One grid point -/

/-- One parity of the sum over degrees, scaled: `X1` the codes' block, `X2` the scales' block, `X` a coefficient block. -/
def term (t : grid0.Coords) (X1 : S4x2x120x256.Idx → Ideal .fp8e4m3) (X2 : S4x2x256.Idx → Ideal .f32)
    (X : S6x240x128.Idx → Ideal .bf16) (b : Fin 6) (i : Fin 4) (d : Fin 30) (p : Fin 2) (tt : Fin 256) : EReal :=
  (∑ k : Fin 120, X (ix3 b ⟨2 * (30 * i.val + d.val) + p.val, by omega⟩ ⟨k.val, by omega⟩)
    * (if 4 * (t 0).val + i.val + 2 * k.val + p.val ≤ 239 then X1 (ix4 i p k tt) else 0)) * X2 (ix3 i p tt)

/-- What a grid point leaves at row `row`, lane `l` of batch `b`. -/
def blockOut (t : grid0.Coords) (X1 : S4x2x120x256.Idx → Ideal .fp8e4m3) (X2 : S4x2x256.Idx → Ideal .f32)
    (X : S6x240x128.Idx → Ideal .bf16) (y : S6x480x128.Idx) : Ideal .f32 :=
  have h1 : (y 1).val < 480 := (y 1).isLt
  have h2 : (y 2).val < 128 := (y 2).isLt
  let i : Fin 4 := ⟨(y 1).val / 120, by omega⟩
  let d : Fin 30 := ⟨(y 1).val % 120 / 4, by omega⟩
  let tt : Fin 256 := ⟨128 * ((y 1).val % 4 / 2) + (y 2).val, by omega⟩
  if (y 1).val % 2 = 0 then term t X1 X2 X (y 0) i d 0 tt + term t X1 X2 X (y 0) i d 1 tt
  else term t X1 X2 X (y 0) i d 0 tt - term t X1 X2 X (y 0) i d 1 tt

section

variable (c : Dev nD) (t : grid0.Coords)
  (M1 : Memref sig .tc .vmem S4x2x120x256 .fp8e4m3) (M2 : Memref sig .tc .vmem S4x2x256 .f32)
  (M3 : Memref sig .tc .vmem S6x240x128 .bf16) (h3 : M3.IsWhole) (M4 : Memref sig .tc .vmem S6x240x128 .bf16) (h4 : M4.IsWhole)
  (f1 : Bf (F := Ideal) c M1) (f2 : Bf (F := Ideal) c M2) (f3 : Bf (F := Ideal) c M3) (f4 : Bf (F := Ideal) c M4)

/-- The coefficient block of output `q`. -/
def block (q : ℕ) : S6x240x128.Idx → Ideal .bf16 :=
  match q with
  | 0 => M3.view.read (Elt Ideal) f3
  | _ + 1 => M4.view.read (Elt Ideal) f4

theorem coeffs_apply (q : ℕ) (b : Fin 6) (w : Fin 106) (j : Fin 8) (p : Fin 2) (l : Fin 128) :
    coeffs c M3 h3 M4 h4 f3 f4 q b w (ix4 0 j p l)
      = block c M3 M4 f3 f4 q (ix3 b ⟨2 * (w.val + 2 * j.val) + p.val, by omega⟩ l) := by
  match q with
  | 0 => exact words_apply c M3 h3 f3 b w j p l
  | _ + 1 => exact words_apply c M4 h4 f4 b w j p l

theorem tileAt_apply (i : Fin 4) (p : Fin 2) (n : Fin 24) (j : Fin 16) (l : Fin 128) :
    tileAt (coeffs c M3 h3 M4 h4 f3 f4) i p n (ix2 j l)
      = block c M3 M4 f3 f4 (n.val / 12) (ix3 (batch n) ⟨2 * (30 * i.val + (14 * (n.val % 2) + j.val)) + p.val, by omega⟩ l) := by
  unfold tileAt
  rw [tile_apply]
  split <;> rw [coeffs_apply] <;> congr 2 <;> refine Fin.ext ?_ <;> simp only [word0, word1] <;> omega

theorem parity_apply (i : Fin 4) (p : Fin 2) (o : Fin 2) (b : Fin 6) (s : Fin 2) (j : Fin 16) (tt : Fin 256) :
    parity c t M1 M2 M3 h3 M4 h4 f1 f2 f3 f4 i p (ix2 ⟨16 * (12 * o.val + 2 * b.val + s.val) + j.val, by omega⟩ tt)
      = term t (M1.view.read (Elt Ideal) f1) (M2.view.read (Elt Ideal) f2) (block c M3 M4 f3 f4 o.val) b i
          ⟨14 * s.val + j.val, by omega⟩ p tt := by
  unfold parity term
  rw [prod_apply, sum_drop]
  · congr 1
    · refine Finset.sum_congr rfl fun k _ => ?_
      have hk : k.val < 120 := k.isLt
      rw [lhs_apply, rhs_apply, tileAt_apply, if_pos hk, dif_pos hk, count_slt t i p k.val hk]
      have hn : (⟨(16 * (12 * o.val + 2 * b.val + s.val) + j.val) / 16, by omega⟩ : Fin 24) = ⟨12 * o.val + 2 * b.val + s.val, by omega⟩ :=
        Fin.ext (by simp only; omega)
      have hj : (⟨(16 * (12 * o.val + 2 * b.val + s.val) + j.val) % 16, by omega⟩ : Fin 16) = j := Fin.ext (by simp only; omega)
      rw [hn, hj]
      have hq : (12 * o.val + 2 * b.val + s.val) / 12 = o.val := by omega
      have hb : batch ⟨12 * o.val + 2 * b.val + s.val, by omega⟩ = b := Fin.ext (by simp only [batch]; omega)
      simp only [hq, hb, decide_eq_true_eq]
      have hs : (12 * o.val + 2 * b.val + s.val) % 2 = s.val := by omega
      simp only [hs]
      congr 1
      split
      · show M1.view.read (Elt Ideal) f1 ((codesRect i p).toLoadRect.idx _) = _
        pointwise
      · rfl
    · show M2.view.read (Elt Ideal) f2 ((scaleRect i p).toLoadRect.idx _) = _
      pointwise
  · intro k hk
    rw [lhs_apply, if_neg (by omega), zero_mul]

theorem hemi_apply (i : Fin 4) (h : Fin 2) (o : Fin 2) (b : Fin 6) (s : Fin 2) (j : Fin 16) (tt : Fin 256) :
    hemi c t M1 M2 M3 h3 M4 h4 f1 f2 f3 f4 i h.val (ix2 ⟨16 * (12 * o.val + 2 * b.val + s.val) + j.val, by omega⟩ tt)
      = if h.val = 0 then
          term t (M1.view.read (Elt Ideal) f1) (M2.view.read (Elt Ideal) f2) (block c M3 M4 f3 f4 o.val) b i
            ⟨14 * s.val + j.val, by omega⟩ 0 tt
          + term t (M1.view.read (Elt Ideal) f1) (M2.view.read (Elt Ideal) f2) (block c M3 M4 f3 f4 o.val) b i
            ⟨14 * s.val + j.val, by omega⟩ 1 tt
        else
          term t (M1.view.read (Elt Ideal) f1) (M2.view.read (Elt Ideal) f2) (block c M3 M4 f3 f4 o.val) b i
            ⟨14 * s.val + j.val, by omega⟩ 0 tt
          - term t (M1.view.read (Elt Ideal) f1) (M2.view.read (Elt Ideal) f2) (block c M3 M4 f3 f4 o.val) b i
            ⟨14 * s.val + j.val, by omega⟩ 1 tt := by
  rw [← parity_apply c t M1 M2 M3 h3 M4 h4 f1 f2 f3 f4 i 0 o b s j tt, ← parity_apply c t M1 M2 M3 h3 M4 h4 f1 f2 f3 f4 i 1 o b s j tt]
  match h with
  | 0 => rfl
  | 1 => rfl

/-- Every store agrees with `blockOut`. -/
theorem piece_apply (o : Fin 2) (n : ℕ) (x : S1x8x128.Idx) :
    (piece (named c t M1 M2 M3 h3 M4 h4 f1 f2 f3 f4) o n).2 x
      = blockOut t (M1.view.read (Elt Ideal) f1) (M2.view.read (Elt Ideal) f2) (block c M3 M4 f3 f4 o.val)
          ((storeRect n).emb x) := by
  obtain ⟨z, j, l, rfl⟩ : ∃ (z : Fin 1) (j : Fin 8) (l : Fin 128), x = ix3 z j l := ⟨x 0, x 1, x 2, eq_ix3 x⟩
  obtain rfl : z = 0 := Subsingleton.elim _ _
  show shapeCast S1x8x128 (extractStridedSlice S8x128 _ (named c t M1 M2 M3 h3 M4 h4 f1 f2 f3 f4 (n / 96 % 4) (n % 2)) (store_slices o n))
    shapeCasts_S8x128_S1x8x128 (ix3 0 j l) = _
  rw [named_eq c t M1 M2 M3 h3 M4 h4 f1 f2 f3 f4 ⟨n / 96 % 4, by omega⟩ ⟨n % 2, by omega⟩]
  have hL := hemi_apply c t M1 M2 M3 h3 M4 h4 f1 f2 f3 f4 ⟨n / 96 % 4, by omega⟩ ⟨n % 2, by omega⟩ o ⟨n % 96 / 16, by omega⟩
    ⟨n % 16 / 8, by omega⟩ ⟨8 * (n % 8 / 4) + j.val, by omega⟩ ⟨128 * (n % 4 / 2) + l.val, by omega⟩
  trans hemi c t M1 M2 M3 h3 M4 h4 f1 f2 f3 f4 ⟨n / 96 % 4, by omega⟩ (n % 2)
    (ix2 ⟨16 * (12 * o.val + 2 * (n % 96 / 16) + n % 16 / 8) + (8 * (n % 8 / 4) + j.val), by omega⟩ ⟨128 * (n % 4 / 2) + l.val, by omega⟩)
  · generalize hemi c t M1 M2 M3 h3 M4 h4 f1 f2 f3 f4 ⟨n / 96 % 4, by omega⟩ (n % 2) = H
    pointwise
    congr 2
    exact Fin.ext (by simp only; omega)
  · refine hL.trans ?_
    unfold blockOut
    have e0 : (storeRect n).emb (ix3 0 j l) 0 = (⟨n % 96 / 16, by omega⟩ : Fin 6) := Fin.ext (by
      show n % 96 / 16 + 1 * 0 = _; simp)
    have e1 : ((storeRect n).emb (ix3 0 j l) 1).val
        = (30 * (n / 96 % 4) + 14 * (n % 16 / 8) + 8 * (n % 8 / 4)) * 4 + 2 * (n % 4 / 2) + n % 2 + 4 * j.val := rfl
    have e2 : ((storeRect n).emb (ix3 0 j l) 2).val = l.val := by show 0 + 1 * l.val = _; omega
    simp only [e0, e1, e2]
    have a1 : ((30 * (n / 96 % 4) + 14 * (n % 16 / 8) + 8 * (n % 8 / 4)) * 4 + 2 * (n % 4 / 2) + n % 2 + 4 * j.val) / 120 = n / 96 % 4 := by
      omega
    have a2 : ((30 * (n / 96 % 4) + 14 * (n % 16 / 8) + 8 * (n % 8 / 4)) * 4 + 2 * (n % 4 / 2) + n % 2 + 4 * j.val) % 120 / 4
        = 14 * (n % 16 / 8) + (8 * (n % 8 / 4) + j.val) := by omega
    have a3 : ((30 * (n / 96 % 4) + 14 * (n % 16 / 8) + 8 * (n % 8 / 4)) * 4 + 2 * (n % 4 / 2) + n % 2 + 4 * j.val) % 4 / 2 = n % 4 / 2 := by
      omega
    have a4 : ((30 * (n / 96 % 4) + 14 * (n % 16 / 8) + 8 * (n % 8 / 4)) * 4 + 2 * (n % 4 / 2) + n % 2 + 4 * j.val) % 2 = n % 2 := by
      omega
    simp only [a1, a2, a3, a4]

/-- The store that holds row `r` of batch `b`, and the row's place in it. -/
theorem store_number (b r : ℕ) (hb : b < 6) (hr : r < 480) : ∃ n j : ℕ, n < 384 ∧ j < 8 ∧ n % 96 / 16 = b
    ∧ (30 * (n / 96 % 4) + 14 * (n % 16 / 8) + 8 * (n % 8 / 4)) * 4 + 2 * (n % 4 / 2) + n % 2 + 4 * j = r := by
  obtain ⟨i, d, q, hi, hd, hq, rfl⟩ : ∃ i d q : ℕ, i < 4 ∧ d < 30 ∧ q < 4 ∧ r = 120 * i + 4 * d + q :=
    ⟨r / 120, r % 120 / 4, r % 4, by omega, by omega, by omega, by omega⟩
  obtain ⟨s, u, j, hs, hu, hj, rfl⟩ : ∃ s u j : ℕ, s < 2 ∧ u < 2 ∧ j < 8 ∧ d = 14 * s + 8 * u + j := by
    by_cases h : d < 16
    · exact ⟨0, d / 8, d % 8, by omega, by omega, by omega, by omega⟩
    · exact ⟨1, (d - 14) / 8, (d - 14) % 8, by omega, by omega, by omega, by omega⟩
  obtain ⟨n, hn⟩ : ∃ n, n = 96 * i + (16 * b + (8 * s + (4 * u + q))) := ⟨_, rfl⟩
  have n0 : n / 96 = i := by omega
  have n1 : n % 96 = 16 * b + (8 * s + (4 * u + q)) := by omega
  have n2 : n % 16 = 8 * s + (4 * u + q) := by omega
  have n3 : n % 8 = 4 * u + q := by omega
  have n4 : n % 4 = q := by omega
  have n5 : n % 2 = q % 2 := by omega
  have m1 : (16 * b + (8 * s + (4 * u + q))) / 16 = b := by clear hn n0 n1 n2 n3 n4 n5; omega
  have m2 : (8 * s + (4 * u + q)) / 8 = s := by clear hn n0 n1 n2 n3 n4 n5; omega
  have m3 : (4 * u + q) / 4 = u := by clear hn n0 n1 n2 n3 n4 n5; omega
  refine ⟨n, j, by clear n0 n1 n2 n3 n4 n5; omega, hj, ?_, ?_⟩
  · rw [n1, m1]
  · rw [n0, n2, n3, n4, n5, m2, m3, Nat.mod_eq_of_lt hi]
    clear hn n0 n1 n2 n3 n4 n5 m1 m2 m3
    omega

/-- The stores cover an output block. -/
theorem piece_cover (y : S6x480x128.Idx) : ∃ n, n < 384 ∧ y ∈ (storeRect n).set := by
  obtain ⟨b, r, l, rfl⟩ : ∃ (b : Fin 6) (r : Fin 480) (l : Fin 128), y = ix3 b r l := ⟨y 0, y 1, y 2, eq_ix3 y⟩
  obtain ⟨n, j, hn, hj, e0, e1⟩ := store_number b.val r.val b.isLt r.isLt
  refine ⟨n, hn, ?_⟩
  have e3 : ix3 b r l = (storeRect n).toLoadRect.idx (ix3 (0 : Fin 1) (⟨j, hj⟩ : Fin 8) l : S1x8x128.Idx) := by
    funext a
    apply Fin.ext
    match a with
    | 0 => exact e0.symm
    | 1 => exact e1.symm
    | 2 => exact (by omega : l.val = 0 + 1 * l.val)
  rw [e3]
  exact (storeRect n).toLoadRect.idx_mem _

theorem read_pieces {S : Space} (M : Memref sig .tc S S6x480x128 .f32) (f : Bf (F := Ideal) c M) (o : Fin 2) :
    M.view.read (Elt Ideal) (M.view.writes (Elt Ideal) f (pieces (named c t M1 M2 M3 h3 M4 h4 f1 f2 f3 f4) o 384))
      = blockOut t (M1.view.read (Elt Ideal) f1) (M2.view.read (Elt Ideal) f2) (block c M3 M4 f3 f4 o.val) := by
  funext y
  refine View.read_writes_apply_of_pieces _ _ _ _ ?_ y ?_
  · intro p hp
    obtain ⟨n, _, rfl⟩ := (mem_pieces _ _ _ _).mp hp
    exact piece_apply c t M1 M2 M3 h3 M4 h4 f1 f2 f3 f4 o n
  · obtain ⟨n, hn, hy⟩ := piece_cover y
    exact ⟨_, (mem_pieces _ _ _ _).mpr ⟨n, hn, rfl⟩, hy⟩

end

end Cert.BodyValue

end
-- ==== Proof.RunIdeal.lean ====
/-
  The run of `KernelIdeal` with its outputs named: every grid point leaves `BodyValue.blockOut` of its blocks in the two
  output buffers (nothing past lane 120 of a coefficient block is read, so what fills the clipped blocks out is
  immaterial), and the launch theorem around the region carries the run through the host lines after it.
-/
module

public import proofs.«01_k».proof.Proof.BodyStores
public import proofs.«01_k».proof.Proof.BodyValue
public import Idealize.ShloMosaic.Lib.Pipeline.ValueKit

@[expose] public section

set_option maxRecDepth 16384

noncomputable section

namespace Cert.RunIdeal

open Cert.KernelIdeal Cert.KernelIdeal.Gen Cert.BodyIdeal Cert.BodyForm Cert.BodyValue

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose RDat)

local notation "𝕄" => MT nD τ sig Unit (Elt Ideal) ℕ (UR sig nD τ) ℕ

/-- The body on owned whole memrefs, the outputs named. -/
theorem sound_body (c : Dev nD) (E : Set ℕ) (i : grid0.Coords)
    (M1 : Memref sig .tc .vmem S4x2x120x256 .fp8e4m3) (h1 : M1.IsWhole) (M2 : Memref sig .tc .vmem S4x2x256 .f32) (h2 : M2.IsWhole)
    (M3 : Memref sig .tc .vmem S6x240x128 .bf16) (h3 : M3.IsWhole) (M4 : Memref sig .tc .vmem S6x240x128 .bf16) (h4 : M4.IsWhole)
    (M5 : Memref sig .tc .vmem S6x480x128 .f32) (h5 : M5.IsWhole) (M6 : Memref sig .tc .vmem S6x480x128 .f32) (h6 : M6.IsWhole)
    (X1 : S4x2x120x256.Idx → Ideal .fp8e4m3) (X2 : S4x2x256.Idx → Ideal .f32) (X3 X4 : S6x240x128.Idx → Ideal .bf16)
    (X5 X6 : S6x480x128.Idx → Ideal .f32) (K : PUnit → sProp 𝕄) :
    iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6
        ∗ (iprop(owns (c : Thread nD τ) M1 fullShare X1 ∗ owns (c : Thread nD τ) M2 fullShare X2 ∗ owns (c : Thread nD τ) M3 fullShare X3
            ∗ owns (c : Thread nD τ) M4 fullShare X4 ∗ owns (c : Thread nD τ) M5 fullShare (blockOut i X1 X2 X3)
            ∗ owns (c : Thread nD τ) M6 fullShare (blockOut i X1 X2 X4)) -∗ K ⟨⟩))
      ⊢ wp frame (wpE (defs₀ (F := Ideal)) Variants.none c none) E (cc0__body i M1 h1 M2 h2 M3 h3 M4 h4 M5 h5 M6 h6) K := by
  unfold owns
  rw [h1.set_eq_univ, h2.set_eq_univ, h3.set_eq_univ, h4.set_eq_univ, h5.set_eq_univ, h6.set_eq_univ]
  iintro ⟨⟨%f1, %e1, H1⟩, ⟨%f2, %e2, H2⟩, ⟨%f3, %e3, H3⟩, ⟨%f4, %e4, H4⟩, ⟨%f5, %e5, H5⟩, ⟨%f6, %e6, H6⟩, Hk⟩
  have r5 := bodyRun_fst (F := Ideal) c i M1 M2 M3 h3 M4 h4 f1 f2 f3 f4 h1 h2 M5 h5 M6 h6 f5 f6
  have r6 := bodyRun_snd (F := Ideal) c i M1 M2 M3 h3 M4 h4 f1 f2 f3 f4 h1 h2 M5 h5 M6 h6 f5 f6
  obtain ⟨B, hB⟩ : ∃ B, B = bodyRun (F := Ideal) c i M1 h1 M2 h2 M3 h3 M4 h4 M5 h5 M6 h6 f1 f2 f3 f4 f5 f6 := ⟨_, rfl⟩
  rw [← hB] at r5 r6
  clear hB
  obtain ⟨⟨W5, W6⟩, hrun⟩ := B
  dsimp only at r5 r6
  have v5 : M5.view.read (Elt Ideal) W5 = blockOut i X1 X2 X3 := by
    rw [r5, read_pieces c i M1 M2 M3 h3 M4 h4 f1 f2 f3 f4 M5 f5 0, e1, e2]
    exact congrArg (blockOut i X1 X2) e3
  have v6 : M6.view.read (Elt Ideal) W6 = blockOut i X1 X2 X4 := by
    rw [r6, read_pieces c i M1 M2 M3 h3 M4 h4 f1 f2 f3 f4 M6 f6 1, e1, e2]
    exact congrArg (blockOut i X1 X2) e4
  clear r5 r6
  iapply (hrun E K)
  isplitl [H1]; · iexact H1
  isplitl [H2]; · iexact H2
  isplitl [H3]; · iexact H3
  isplitl [H4]; · iexact H4
  isplitl [H5]; · iexact H5
  isplitl [H6]; · iexact H6
  iintro ⟨H1, H2, H3, H4, H5, H6⟩
  iapply Hk
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists W5; isplitr; · ipureintro; exact v5
    iexact H5
  · iexists W6; isplitr; · ipureintro; exact v6
    iexact H6

variable (m : (ℓ : Loc nD τ sig) → Buf (Elt Ideal) ℓ) (ρ : Dev nD → PrngReg)

/-- A coefficient block at point `t`, filled out past the array's end with a word nothing reads. -/
abbrev full2 (c : Dev nD) (t : Fin cfg0.N) (d : (cfg0.win 2).block.Idx → Elt Ideal (cfg0.win 2).elt) : S6x240x128.Idx → Ideal .bf16 :=
  win0_2.fill (grid0.coords t) d (iblk m c 2 t)
abbrev full3 (c : Dev nD) (t : Fin cfg0.N) (d : (cfg0.win 3).block.Idx → Elt Ideal (cfg0.win 3).elt) : S6x240x128.Idx → Ideal .bf16 :=
  win0_3.fill (grid0.coords t) d (iblk m c 3 t)

theorem coords_val : ∀ t : Fin cfg0.N, (grid0.coords t 0).val = t.val := by decide +kernel
theorem xsize2 : ∀ (t : Fin cfg0.N) (a : Fin 3), win0_2.xsize (grid0.coords t) a = ![6, 240, 120] a := by decide +kernel
theorem xsize3 : ∀ (t : Fin cfg0.N) (a : Fin 3), win0_3.xsize (grid0.coords t) a = ![6, 240, 120] a := by decide +kernel
theorem index0 : ∀ t : Fin cfg0.N, win0_0.index t = ![t.val, 0, 0, 0] := by decide +kernel
theorem index1 : ∀ t : Fin cfg0.N, win0_1.index t = ![t.val, 0, 0] := by decide +kernel
theorem index2 : ∀ t : Fin cfg0.N, win0_2.index t = ![0, t.val, 0] := by decide +kernel
theorem index3 : ∀ t : Fin cfg0.N, win0_3.index t = ![0, t.val, 0] := by decide +kernel
theorem index4 : ∀ t : Fin cfg0.N, win0_4.index t = ![0, t.val, 0] := by decide +kernel
theorem index5 : ∀ t : Fin cfg0.N, win0_5.index t = ![0, t.val, 0] := by decide +kernel

theorem full2_apply (c : Dev nD) (t : Fin cfg0.N) (d) (b : Fin 6) (r : Fin 240) (k : Fin 128) (hk : k.val < 120) :
    full2 m c t d (ix3 b r k) = V m c main_v1 (ix3 b ⟨240 * t.val + r.val, by have := t.isLt; have : cfg0.N = 60 := N_0; omega⟩ ⟨k.val, hk⟩ : S6x14400x120.Idx) := by
  have hj : ∀ a : Fin 3, ((ix3 b r k : S6x240x128.Idx) a).val < win0_2.xsize (grid0.coords t) a := by
    intro a; rw [xsize2]
    match a with
    | 0 => exact b.isLt
    | 1 => exact r.isLt
    | 2 => exact hk
  refine (win0_2.fill_xinj (grid0.coords t) d (iblk m c 2 t) (fun a => ⟨_, hj a⟩)).trans ?_
  blk_ext [iblk, index2 t]

theorem full3_apply (c : Dev nD) (t : Fin cfg0.N) (d) (b : Fin 6) (r : Fin 240) (k : Fin 128) (hk : k.val < 120) :
    full3 m c t d (ix3 b r k) = V m c main_v3 (ix3 b ⟨240 * t.val + r.val, by have := t.isLt; have : cfg0.N = 60 := N_0; omega⟩ ⟨k.val, hk⟩ : S6x14400x120.Idx) := by
  have hj : ∀ a : Fin 3, ((ix3 b r k : S6x240x128.Idx) a).val < win0_3.xsize (grid0.coords t) a := by
    intro a; rw [xsize3]
    match a with
    | 0 => exact b.isLt
    | 1 => exact r.isLt
    | 2 => exact hk
  refine (win0_3.fill_xinj (grid0.coords t) d (iblk m c 3 t) (fun a => ⟨_, hj a⟩)).trans ?_
  blk_ext [iblk, index3 t]

/-- What a grid point leaves reads a coefficient block below lane 120 only. -/
theorem blockOut_congr (i : grid0.Coords) (X1 : S4x2x120x256.Idx → Ideal .fp8e4m3) (X2 : S4x2x256.Idx → Ideal .f32)
    (X X' : S6x240x128.Idx → Ideal .bf16)
    (h : ∀ (b : Fin 6) (r : Fin 240) (k : Fin 128), k.val < 120 → X (ix3 b r k) = X' (ix3 b r k)) :
    blockOut i X1 X2 X = blockOut i X1 X2 X' := by
  have e : term i X1 X2 X = term i X1 X2 X' := by
    funext b j d p tt
    unfold term
    exact congrArg (· * _) (Finset.sum_congr rfl fun k _ => congrArg (· * _) (h _ _ _ k.isLt))
  funext y
  unfold blockOut
  rw [e]

/-- The proof data: the inputs' buffers left at their blocks, the outputs' at `blockOut` of them. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => full2 m c t (Pipeline.Dat.unnamed (cfg := cfg0) 2 t)
    | ⟨3, _⟩ => full3 m c t (Pipeline.Dat.unnamed (cfg := cfg0) 3 t)
    | ⟨4, _⟩ => blockOut (grid0.coords t) (iblk m c 0 t) (iblk m c 1 t) (full2 m c t (Pipeline.Dat.unnamed (cfg := cfg0) 2 t))
    | ⟨5, _⟩ => blockOut (grid0.coords t) (iblk m c 0 t) (iblk m c 1 t) (full3 m c t (Pipeline.Dat.unnamed (cfg := cfg0) 3 t))
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t
    = full2 m c t (Pipeline.Dat.unnamed (cfg := cfg0) 2 t) := by dsimp only [dats]
theorem after_3 (c : Dev nD) (t : Fin cfg0.N) : (dats m 0 c).after 3 t
    = full3 m c t (Pipeline.Dat.unnamed (cfg := cfg0) 3 t) := by dsimp only [dats]
theorem after_4 (c : Dev nD) (t : Fin cfg0.N) (d) : (dats m 0 c).after 4 t
    = blockOut (grid0.coords t) (iblk m c 0 t) (iblk m c 1 t) (full2 m c t d) := by
  dsimp only [dats]
  exact blockOut_congr _ _ _ _ _ fun b r k hk => (full2_apply m c t _ b r k hk).trans (full2_apply m c t d b r k hk).symm
theorem after_5 (c : Dev nD) (t : Fin cfg0.N) (d) : (dats m 0 c).after 5 t
    = blockOut (grid0.coords t) (iblk m c 0 t) (iblk m c 1 t) (full3 m c t d) := by
  dsimp only [dats]
  exact blockOut_congr _ _ _ _ _ fun b r k hk => (full3_apply m c t _ b r k hk).trans (full3_apply m c t d b r k hk).symm
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = full2 m c t d := by
  unfold Dat.before; rw [if_pos (fetch0_2 t)]; rfl
theorem before_3 (c : Dev nD) (t : Fin cfg0.N) (d) : (dats m 0 c).before 3 t d = full3 m c t d := by
  unfold Dat.before; rw [if_pos (fetch0_3 t)]; rfl

/-- The body table's row at point `t`'s slots is the body as `bodyAt0` spells it. -/
theorem defs₀_row (t : Fin cfg0.N) : defs₀ (F := Ideal) .tc cfg0.body (cfg0.bodyArgs t (cfg0.slots t)) = bodyAt0 t := by
  unfold defs₀; rw [Defs.onTc_tc]

theorem body_obligation (c : Dev nD) :
    BodyObligationLoose (dats m 0 c) (defs₀ (F := Ideal)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  have c2 : win0_2.cut (grid0.coords t) ((dats m 0 c).after 2 t) = iblk m c 2 t := by
    rw [after_2]; exact win0_2.cut_fill _ _ _
  have c3 : win0_3.cut (grid0.coords t) ((dats m 0 c).after 3 t) = iblk m c 3 t := by
    rw [after_3]; exact win0_3.cut_fill _ _ _
  iintro ⟨HΦ, Ho, ⟨%d0, H0⟩, ⟨%d1, H1⟩, ⟨%d2, H2⟩, ⟨%d3, H3⟩, ⟨%d4, H4⟩, ⟨%d5, H5⟩⟩
  rw [before_0 m c t d0, before_1 m c t d1, before_2 m c t d2, before_3 m c t d3]
  iapply (sound_body c Set.univ (grid0.coords t) _ _ _ _ _ _ _ _ _ _ _ _ (iblk m c 0 t) (iblk m c 1 t)
    (full2 m c t d2) (full3 m c t d3) _ _ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · rw [after_0]; iexact H0
  isplitl [H1]; · rw [after_1]; iexact H1
  isplitl [H2]
  · iexists d2
    change _ ⊢ owns (c : Thread nD τ) _ fullShare (win0_2.fill (grid0.coords t) d2 (win0_2.cut (grid0.coords t) ((dats m 0 c).after 2 t)))
    rw [c2]; try iexact H2
  isplitl [H3]
  · iexists d3
    change _ ⊢ owns (c : Thread nD τ) _ fullShare (win0_3.fill (grid0.coords t) d3 (win0_3.cut (grid0.coords t) ((dats m 0 c).after 3 t)))
    rw [c3]; try iexact H3
  isplitl [H4]
  · rw [after_4 m c t d2]; iexact H4
  · rw [after_5 m c t d3]; iexact H5

set_option backward.isDefEq.respectTransparency.types false in
set_option maxHeartbeats 800000 in
theorem run_main : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.RunIdeal

end
-- ==== Proof.Spec.lean ====
/-
  The two transforms' values on the arguments, index by index: the sum over degrees of one parity (`half`) and the two
  hemispheres' values (`value`), the northern one the halves' sum, the southern one their difference.
-/
module

public import proofs.«01_k».proof.KernelIdeal
public import Idealize.ShloMosaic.Lib.Pointwise

@[expose] public section

noncomputable section

namespace Cert.Spec

open Cert.KernelIdeal
open Idealize.ShloMosaic Idealize.ShloMosaic.Tactic

variable (A0 : S240x2x120x256.Idx → Ideal .fp8e4m3) (A1 : S240x2x256.Idx → Ideal .f32) (C : S6x240x2x120x30.Idx → Ideal .bf16)

/-- The degrees of parity `p` at order `M`, summed at latitude `tt` and scaled. -/
def half (b : Fin 6) (M : Fin 240) (d : Fin 30) (p : Fin 2) (tt : Fin 256) : EReal :=
  (∑ k : Fin 120, C (ix5 b M p k d) * (if M.val + 2 * k.val + p.val ≤ 239 then A0 (ix4 M p k tt) else 0)) * A1 (ix3 M p tt)

/-- The value at hemisphere `h`. -/
def value (b : Fin 6) (M : Fin 240) (h : ℕ) (tt : Fin 256) (d : Fin 30) : EReal :=
  if h = 0 then half A0 A1 C b M d 0 tt + half A0 A1 C b M d 1 tt
  else half A0 A1 C b M d 0 tt - half A0 A1 C b M d 1 tt

/-- The whole result. -/
def result : S6x240x2x256x30.Idx → Ideal .f32 := fun y => value A0 A1 C (y 0) (y 1) (y 2).val (y 3) (y 4)

end Cert.Spec

end
-- ==== Proof.ValueIdeal.lean ====
/-
  The results of `KernelIdeal`: the blocks the grid points write back make up the two output arrays, the host lines after
  the region lay them out as `Spec.result`.
-/
module

public import proofs.«01_k».proof.Proof.RunIdeal
public import proofs.«01_k».proof.Proof.Spec

@[expose] public section

set_option maxRecDepth 16384

noncomputable section

namespace Cert.ValueIdeal

open Cert.KernelIdeal Cert.KernelIdeal.Gen Cert.BodyValue Cert.RunIdeal Cert.Spec

open Idealize.ShloMosaic
open Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

abbrev arg0 (c : Dev nD) : S240x2x120x256.Idx → Ideal .fp8e4m3 := m ((c.tc : Thread nD τ).loc main_arg0)
abbrev arg1 (c : Dev nD) : S240x2x256.Idx → Ideal .f32 := m ((c.tc : Thread nD τ).loc main_arg1)
abbrev arg2 (c : Dev nD) : S6x240x2x120x30.Idx → Ideal .bf16 := m ((c.tc : Thread nD τ).loc main_arg2)
abbrev arg3 (c : Dev nD) : S6x240x2x120x30.Idx → Ideal .bf16 := m ((c.tc : Thread nD τ).loc main_arg3)

theorem lt60 (t : Fin cfg0.N) : t.val < 60 := by have := t.isLt; have : cfg0.N = 60 := N_0; omega

/-- The host's layout of the coefficients: row `60 M + 2 d + p`. -/
theorem entry2 (c : Dev nD) (b : Fin 6) (M : Fin 240) (d : Fin 30) (p : Fin 2) (k : Fin 120) :
    V m c main_v1 (ix3 b ⟨60 * M.val + 2 * d.val + p.val, by omega⟩ k : S6x14400x120.Idx) = arg2 m c (ix5 b M p k d) := by
  have e : V m c main_v1 = shapeCast S6x14400x120 (transpose S6x240x30x2x120 [0, 1, 4, 2, 3] (arg2 m c)
      transposes_S6x240x2x120x30_S6x240x30x2x120_0_1_4_2_3) shapeCasts_S6x240x30x2x120_S6x14400x120 := by
    simp only [V, V0, List.flatten_cons, List.flatten_nil, List.append_nil, hostOps0]
    after_results <;> rfl
  rw [e]
  pointwise

theorem entry3 (c : Dev nD) (b : Fin 6) (M : Fin 240) (d : Fin 30) (p : Fin 2) (k : Fin 120) :
    V m c main_v3 (ix3 b ⟨60 * M.val + 2 * d.val + p.val, by omega⟩ k : S6x14400x120.Idx) = arg3 m c (ix5 b M p k d) := by
  have e : V m c main_v3 = shapeCast S6x14400x120 (transpose S6x240x30x2x120 [0, 1, 4, 2, 3] (arg3 m c)
      transposes_S6x240x2x120x30_S6x240x30x2x120_0_1_4_2_3) shapeCasts_S6x240x30x2x120_S6x14400x120 := by
    simp only [V, V0, List.flatten_cons, List.flatten_nil, List.append_nil, hostOps0]
    after_results <;> rfl
  rw [e]
  pointwise

theorem block0 (c : Dev nD) (t : Fin cfg0.N) (i : Fin 4) (p : Fin 2) (k : Fin 120) (tt : Fin 256) :
    iblk m c 0 t (ix4 i p k tt : S4x2x120x256.Idx) = arg0 m c (ix4 ⟨4 * t.val + i.val, by have := lt60 t; omega⟩ p k tt) := by
  blk_ext [iblk, V, index0 t]

theorem block1 (c : Dev nD) (t : Fin cfg0.N) (i : Fin 4) (p : Fin 2) (tt : Fin 256) :
    iblk m c 1 t (ix3 i p tt : S4x2x256.Idx) = arg1 m c (ix3 ⟨4 * t.val + i.val, by have := lt60 t; omega⟩ p tt) := by
  blk_ext [iblk, V, index1 t]

/-- A point's term is the specification's, at order `4 t + i`. -/
theorem term_eq (c : Dev nD) (t : Fin cfg0.N) (C : S6x240x2x120x30.Idx → Ideal .bf16) (X : S6x240x128.Idx → Ideal .bf16)
    (hX : ∀ (b : Fin 6) (i : Fin 4) (d : Fin 30) (p : Fin 2) (k : Fin 120),
      X (ix3 b ⟨2 * (30 * i.val + d.val) + p.val, by omega⟩ ⟨k.val, by omega⟩) = C (ix5 b ⟨4 * t.val + i.val, by have := lt60 t; omega⟩ p k d))
    (b : Fin 6) (i : Fin 4) (d : Fin 30) (p : Fin 2) (tt : Fin 256) :
    term (grid0.coords t) (iblk m c 0 t) (iblk m c 1 t) X b i d p tt
      = half (arg0 m c) (arg1 m c) C b ⟨4 * t.val + i.val, by have := lt60 t; omega⟩ d p tt := by
  unfold term half
  rw [block1 m c t i p tt]
  refine congrArg (· * _) (Finset.sum_congr rfl fun k _ => ?_)
  rw [hX, block0 m c t i p k tt, coords_val]

/-- The output arrays, index by index. -/
def array (c : Dev nD) (C : S6x240x2x120x30.Idx → Ideal .bf16) : S6x28800x128.Idx → Ideal .f32 := fun y =>
  have h1 : (y 1).val < 28800 := (y 1).isLt
  have h2 : (y 2).val < 128 := (y 2).isLt
  value (arg0 m c) (arg1 m c) C (y 0) ⟨(y 1).val / 120, by omega⟩ ((y 1).val % 2)
    ⟨128 * ((y 1).val % 4 / 2) + (y 2).val, by omega⟩ ⟨(y 1).val % 120 / 4, by omega⟩

/-- What point `t` leaves is rows `480 t, …, 480 t + 479` of the array. -/
theorem blockOut_eq (c : Dev nD) (t : Fin cfg0.N) (C : S6x240x2x120x30.Idx → Ideal .bf16) (X : S6x240x128.Idx → Ideal .bf16)
    (hX : ∀ (b : Fin 6) (i : Fin 4) (d : Fin 30) (p : Fin 2) (k : Fin 120),
      X (ix3 b ⟨2 * (30 * i.val + d.val) + p.val, by omega⟩ ⟨k.val, by omega⟩) = C (ix5 b ⟨4 * t.val + i.val, by have := lt60 t; omega⟩ p k d))
    (b : Fin 6) (r : Fin 480) (l : Fin 128) :
    blockOut (grid0.coords t) (iblk m c 0 t) (iblk m c 1 t) X (ix3 b r l)
      = array m c C (ix3 b ⟨480 * t.val + r.val, by have := lt60 t; omega⟩ l) := by
  have q1 : (480 * t.val + r.val) / 120 = 4 * t.val + r.val / 120 := by omega
  have q2 : (480 * t.val + r.val) % 2 = r.val % 2 := by omega
  have q3 : (480 * t.val + r.val) % 4 = r.val % 4 := by omega
  have q4 : (480 * t.val + r.val) % 120 = r.val % 120 := by omega
  have e1 : blockOut (grid0.coords t) (iblk m c 0 t) (iblk m c 1 t) X (ix3 b r l)
      = if r.val % 2 = 0
        then term (grid0.coords t) (iblk m c 0 t) (iblk m c 1 t) X b ⟨r.val / 120, by omega⟩ ⟨r.val % 120 / 4, by omega⟩ 0
            ⟨128 * (r.val % 4 / 2) + l.val, by omega⟩
          + term (grid0.coords t) (iblk m c 0 t) (iblk m c 1 t) X b ⟨r.val / 120, by omega⟩ ⟨r.val % 120 / 4, by omega⟩ 1
            ⟨128 * (r.val % 4 / 2) + l.val, by omega⟩
        else term (grid0.coords t) (iblk m c 0 t) (iblk m c 1 t) X b ⟨r.val / 120, by omega⟩ ⟨r.val % 120 / 4, by omega⟩ 0
            ⟨128 * (r.val % 4 / 2) + l.val, by omega⟩
          - term (grid0.coords t) (iblk m c 0 t) (iblk m c 1 t) X b ⟨r.val / 120, by omega⟩ ⟨r.val % 120 / 4, by omega⟩ 1
            ⟨128 * (r.val % 4 / 2) + l.val, by omega⟩ := rfl
  have e2 : array m c C (ix3 b ⟨480 * t.val + r.val, by have := lt60 t; omega⟩ l)
      = value (arg0 m c) (arg1 m c) C b ⟨(480 * t.val + r.val) / 120, by have := lt60 t; omega⟩ ((480 * t.val + r.val) % 2)
        ⟨128 * ((480 * t.val + r.val) % 4 / 2) + l.val, by omega⟩ ⟨(480 * t.val + r.val) % 120 / 4, by omega⟩ := rfl
  rw [e1, e2]
  simp only [q1, q2, q3, q4, value, term_eq m c t C X hX]

theorem rows2 (c : Dev nD) (t : Fin cfg0.N) (d) (b : Fin 6) (i : Fin 4) (e : Fin 30) (p : Fin 2) (k : Fin 120) :
    full2 m c t d (ix3 b ⟨2 * (30 * i.val + e.val) + p.val, by omega⟩ ⟨k.val, by omega⟩)
      = arg2 m c (ix5 b ⟨4 * t.val + i.val, by have := lt60 t; omega⟩ p k e) := by
  rw [full2_apply m c t d _ _ _ k.isLt, ← entry2 m c b ⟨4 * t.val + i.val, by have := lt60 t; omega⟩ e p k]
  congr 2
  exact Fin.ext (by simp only; omega)

theorem rows3 (c : Dev nD) (t : Fin cfg0.N) (d) (b : Fin 6) (i : Fin 4) (e : Fin 30) (p : Fin 2) (k : Fin 120) :
    full3 m c t d (ix3 b ⟨2 * (30 * i.val + e.val) + p.val, by omega⟩ ⟨k.val, by omega⟩)
      = arg3 m c (ix5 b ⟨4 * t.val + i.val, by have := lt60 t; omega⟩ p k e) := by
  rw [full3_apply m c t d _ _ _ k.isLt, ← entry3 m c b ⟨4 * t.val + i.val, by have := lt60 t; omega⟩ e p k]
  congr 2
  exact Fin.ext (by simp only; omega)

theorem arr4 (c : Dev nD) : (dats m 0 c).arrAt 4 cfg0.N = array m c (arg2 m c) := by
  refine (dats m 0 c).arrAt_eq_of_covers 4 _ (by decide +kernel) fun t hf y => ?_
  blk_simp
  rw [after_4 m c t (Dat.unnamed (cfg := cfg0) 2 t)]
  obtain ⟨b, r, l, rfl⟩ : ∃ (b : Fin 6) (r : Fin 480) (l : Fin 128), y = ix3 b r l := ⟨y 0, y 1, y 2, eq_ix3 y⟩
  refine (blockOut_eq m c t _ _ (rows2 m c t _) b r l).trans ?_
  blk_ext [index4 t]

theorem arr5 (c : Dev nD) : (dats m 0 c).arrAt 5 cfg0.N = array m c (arg3 m c) := by
  refine (dats m 0 c).arrAt_eq_of_covers 5 _ (by decide +kernel) fun t hf y => ?_
  blk_simp
  rw [after_5 m c t (Dat.unnamed (cfg := cfg0) 3 t)]
  obtain ⟨b, r, l, rfl⟩ : ∃ (b : Fin 6) (r : Fin 480) (l : Fin 128), y = ix3 b r l := ⟨y 0, y 1, y 2, eq_ix3 y⟩
  refine (blockOut_eq m c t _ _ (rows3 m c t _) b r l).trans ?_
  blk_ext [index5 t]

/-- The host lines after the region lay an output array out as the result. -/
theorem layout (c : Dev nD) (C : S6x240x2x120x30.Idx → Ideal .bf16) :
    shapeCast S6x240x2x256x30 (transpose S6x240x2x2x128x30 [0, 1, 4, 3, 5, 2]
      (shapeCast S6x240x30x2x2x128 (array m c C) shapeCasts_S6x28800x128_S6x240x30x2x2x128)
      transposes_S6x240x30x2x2x128_S6x240x2x2x128x30_0_1_4_3_5_2) shapeCasts_S6x240x2x2x128x30_S6x240x2x256x30
      = result (arg0 m c) (arg1 m c) C := by
  funext y
  obtain ⟨b, M, h, tt, d, rfl⟩ : ∃ (b : Fin 6) (M : Fin 240) (h : Fin 2) (tt : Fin 256) (d : Fin 30), y = ix5 b M h tt d :=
    ⟨y 0, y 1, y 2, y 3, y 4, eq_ix5 y⟩
  pointwise
  have q1 : (M.val * 120 + d.val * 4 + tt.val / 128 * 2 + h.val) / 120 = M.val := by omega
  have q2 : (M.val * 120 + d.val * 4 + tt.val / 128 * 2 + h.val) % 2 = h.val := by omega
  have q3 : 128 * ((M.val * 120 + d.val * 4 + tt.val / 128 * 2 + h.val) % 4 / 2) + tt.val % 128 = tt.val := by omega
  have q4 : (M.val * 120 + d.val * 4 + tt.val / 128 * 2 + h.val) % 120 / 4 = d.val := by omega
  unfold array result
  simp only [ix3, ix5, q1, q2, q3, q4, Fin.eta]

theorem result0 (c : Dev nD) : Pipeline.afterTail₀ cfgs (dats m) 0 (V0 m) [hostOps1] c main_v7
    = result (arg0 m c) (arg1 m c) (arg2 m c) := by
  have e : Pipeline.withArrays spec0 c (V0 m c) (fun w => (dats m 0 c).arrAt w (cfgs 0).N) (Proc.devRef .tc main_v4_0)
      = array m c (arg2 m c) := (Pipeline.withArrays_arr spec0 launch0.win.arr_inj c (V0 m c) _ 4).trans (arr4 m c)
  rw [← layout m c, ← e]
  unfold Pipeline.afterTail₀
  simp only [List.flatten_cons, List.flatten_nil, List.append_nil, hostOps1]
  after_results <;> rfl

theorem result1 (c : Dev nD) : Pipeline.afterTail₀ cfgs (dats m) 0 (V0 m) [hostOps1] c main_v10
    = result (arg0 m c) (arg1 m c) (arg3 m c) := by
  have e : Pipeline.withArrays spec0 c (V0 m c) (fun w => (dats m 0 c).arrAt w (cfgs 0).N) (Proc.devRef .tc main_v4_1)
      = array m c (arg3 m c) := (Pipeline.withArrays_arr spec0 launch0.win.arr_inj c (V0 m c) _ 5).trans (arr5 m c)
  rw [← layout m c, ← e]
  unfold Pipeline.afterTail₀
  simp only [List.flatten_cons, List.flatten_nil, List.append_nil, hostOps1]
  after_results <;> rfl

/-- The run: both results at the specification, the arguments unchanged, every
    counter at zero. -/
theorem run : θ_run defs (onTc (τ := τ) (main (F := Ideal))) ⟨m, fun _ => 0, ρ⟩ (fun r => (∀ c : Dev nD,
    r.2.mem ((c.tc : Thread nD τ).loc main_v7) = result (arg0 m c) (arg1 m c) (arg2 m c)
    ∧ r.2.mem ((c.tc : Thread nD τ).loc main_v10) = result (arg0 m c) (arg1 m c) (arg3 m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3))
    ∧ r.2.sem = fun _ => 0) :=
  (θ_run defs _ _).mono (fun _ ⟨h, hs⟩ => ⟨fun c =>
    ⟨((h c).2 main_v7 (Pipeline.mem_restRefs_of main_v7 (by decide) (by decide))).trans (result0 m c),
      ((h c).2 main_v10 (Pipeline.mem_restRefs_of main_v10 (by decide) (by decide))).trans (result1 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩, hs⟩)
    (run_main m ρ)

end Cert.ValueIdeal

end
-- ==== Proof.Reference.lean ====
module

public import proofs.«01_k».proof.Proof.Gen.ReferenceIdeal
public import proofs.«01_k».proof.Proof.Gen.ReferenceIdeal.Frame
public import proofs.«01_k».proof.Proof.Gen.ReferenceIdeal.Launch

@[expose] public section
end
-- ==== Proof.ValueReference.lean ====
/-
  The results of `ReferenceIdeal`: its region converts the codes, its host lines mask them, multiply, scale and combine
  the two parities; index by index this is `Spec.result`.
-/
module

public import proofs.«01_k».proof.Proof.Reference
public import proofs.«01_k».proof.Proof.Spec
public import Idealize.ShloMosaic.Lib.Pipeline.ValueKit

@[expose] public section

set_option maxRecDepth 16384

noncomputable section

namespace Cert.ValueReference

open Cert.ReferenceIdeal Cert.ReferenceIdeal.Gen Cert.Spec

open Idealize.ShloMosaic
open Idealize.ShloMosaic.TcCoe Idealize.ShloMosaic.Tactic
open Idealize.SL Idealize.SL.Sem
open Idealize.ShloMosaic.Pipeline (Dat Cfg Window)

/-- The codes below the triangle. -/
def masked (Y : FVec Ideal S240x2x120x256 .bf16) : FVec Ideal S240x2x120x256 .bf16 :=
  select (broadcastInDim S240x2x120x256 ![0, 1, 2, 3] bcast_S240x2x120x1_S240x2x120x256_0_1_2_3
      (broadcastInDim S240x2x120x1 ![0, 1, 2] bcast_S240x2x120_S240x2x120x1_0_1_2
        (cmpi .sle
          (addi
            (broadcastInDim S240x2x120 ![0, 1, 2] bcast_S240x1x120_S240x2x120_0_1_2
              (addi
                (broadcastInDim S240x1x120 ![0, 1, 2] bcast_S240x1x1_S240x1x120_0_1_2
                  (broadcastInDim S240x1x1 ![0] bcast_S240_S240x1x1_0 (iotaInDim S240 32 0)))
                (broadcastInDim S240x1x120 ![0, 1, 2] bcast_S1x1x120_S240x1x120_0_1_2
                  (muli (broadcastInDim S1x1x120 ![] bcast_S_S1x1x120 (constantI S_ 32 2#32))
                    (broadcastInDim S1x1x120 ![2] bcast_S120_S1x1x120_2 (iotaInDim S120 32 0))))))
            (broadcastInDim S240x2x120 ![0, 1, 2] bcast_S1x2x1_S240x2x120_0_1_2
              (broadcastInDim S1x2x1 ![1] bcast_S2_S1x2x1_1 (iotaInDim S2 32 0))))
          (broadcastInDim S240x2x120 ![] bcast_S_S240x2x120 (constantI S_ 32 239#32)))))
    Y (broadcastInDim S240x2x120x256 ![] bcast_S_S240x2x120x256 (constant S_ .bf16 0x0000#16))

/-- One transform's two parities, scaled. -/
def scaled (Y : FVec Ideal S240x2x120x256 .bf16) (A1 : FVec Ideal S240x2x256 .f32) (C : FVec Ideal S6x240x2x120x30 .bf16) :
    FVec Ideal S6x240x2x256x30 .f32 :=
  mulf
    (transpose S6x240x2x256x30 [3, 0, 1, 2, 4]
      (Host.dotGeneral dot_S240x2x120x256_S6x240x2x120x30_S240x2x256x6x30_2_3_3_04_01_12 none Y C)
      transposes_S240x2x256x6x30_S6x240x2x256x30_3_0_1_2_4)
    (broadcastInDim S6x240x2x256x30 ![0, 1, 2, 3, 4] bcast_S1x240x2x256x1_S6x240x2x256x30_0_1_2_3_4
      (broadcastInDim S1x240x2x256x1 ![1, 2, 3] bcast_S240x2x256_S1x240x2x256x1_1_2_3 A1))

/-- One parity of it. -/
def even (P : FVec Ideal S6x240x2x256x30 .f32) : FVec Ideal S6x240x256x30 .f32 :=
  shapeCast S6x240x256x30 (extractStridedSlice S6x240x1x256x30 ![0, 0, 0, 0, 0] P slices_S6x240x2x256x30_S6x240x1x256x30_0_0_0_0_0)
    shapeCasts_S6x240x1x256x30_S6x240x256x30
def odd (P : FVec Ideal S6x240x2x256x30 .f32) : FVec Ideal S6x240x256x30 .f32 :=
  shapeCast S6x240x256x30 (extractStridedSlice S6x240x1x256x30 ![0, 0, 1, 0, 0] P slices_S6x240x2x256x30_S6x240x1x256x30_0_0_1_0_0)
    shapeCasts_S6x240x1x256x30_S6x240x256x30

/-- The hemispheres side by side. -/
def both (P : FVec Ideal S6x240x2x256x30 .f32) : FVec Ideal S6x240x2x256x30 .f32 :=
  concatenate S6x240x2x256x30 2
    [⟨S6x240x1x256x30, broadcastInDim S6x240x1x256x30 ![0, 1, 3, 4] bcast_S6x240x256x30_S6x240x1x256x30_0_1_3_4 (addf (even P) (odd P))⟩,
     ⟨S6x240x1x256x30, broadcastInDim S6x240x1x256x30 ![0, 1, 3, 4] bcast_S6x240x256x30_S6x240x1x256x30_0_1_3_4 (subf (even P) (odd P))⟩]
    concatenates_S6x240x1x256x30_S6x240x1x256x30_S6x240x2x256x30_d2

theorem masked_apply (Y : FVec Ideal S240x2x120x256 .bf16) (M : Fin 240) (p : Fin 2) (k : Fin 120) (tt : Fin 256) :
    masked Y (ix4 M p k tt) = if M.val + 2 * k.val + p.val ≤ 239 then Y (ix4 M p k tt) else 0 := by
  pointwise [masked]
  have e : IntOp.addi (IntOp.addi (BitVec.ofNat 32 M.val) (IntOp.muli (2#32) (BitVec.ofNat 32 k.val))) (BitVec.ofNat 32 p.val)
      = BitVec.ofNat 32 (M.val + 2 * k.val + p.val) := by
    simp only [IntOp.addi, IntOp.muli, BitVec.ofNat_add, BitVec.ofNat_mul]
  have e' : (BitVec.ofNat 32 (M.val + 2 * k.val + p.val)).sle 239#32 = decide (M.val + 2 * k.val + p.val ≤ 239) := by
    rw [BitVec.sle_eq_decide, BitVec.toInt_eq_toNat_of_lt, BitVec.toInt_eq_toNat_of_lt] <;> rw [BitVec.toNat_ofNat] <;>
      first | omega | skip
    rw [BitVec.toNat_ofNat]
    congr 1
    exact propext (by omega)
  rw [e]
  show Scalar.select (BitVec.ofBool ((BitVec.ofNat 32 (M.val + 2 * k.val + p.val)).sle 239#32)) _ _ = _
  rw [e']
  by_cases h : M.val + 2 * k.val + p.val ≤ 239
  · rw [if_pos h, decide_eq_true h]; rfl
  · rw [if_neg h, decide_eq_false h]; rfl

theorem scaled_apply (Y : FVec Ideal S240x2x120x256 .bf16) (A1 : FVec Ideal S240x2x256 .f32) (C : FVec Ideal S6x240x2x120x30 .bf16)
    (b : Fin 6) (M : Fin 240) (p : Fin 2) (tt : Fin 256) (d : Fin 30) :
    scaled (masked Y) A1 C (ix5 b M p tt d) = half Y A1 C b M d p tt := by
  pointwise [scaled]
  unfold half
  refine congrArg (· * _) (Finset.sum_congr rfl fun k _ => ?_)
  rw [masked_apply]
  exact mul_comm _ _

theorem both_apply (P : FVec Ideal S6x240x2x256x30 .f32) (b : Fin 6) (M : Fin 240) (h : Fin 2) (tt : Fin 256) (d : Fin 30) :
    both P (ix5 b M h tt d) = if h.val = 0 then P (ix5 b M 0 tt d) + P (ix5 b M 1 tt d) else P (ix5 b M 0 tt d) - P (ix5 b M 1 tt d) := by
  pointwise [both, even, odd]
  by_cases e : h.val = 0
  · rw [dif_pos (by omega), if_pos e]
  · rw [dif_neg (by omega), if_neg e]

variable (m : (ℓ : Loc nD τ sig) → Buf (Elt Ideal) ℓ) (ρ : Dev nD → PrngReg)

theorem index0 : ∀ t : Fin cfg0.N, win0_0.index t = ![0, 0, 0, 0] := by decide +kernel
theorem index1 : ∀ t : Fin cfg0.N, win0_1.index t = ![0, 0, 0, 0] := by decide +kernel

/-- The region's output: the codes, converted. -/
theorem codes (c : Dev nD) : (dats m 0 c).arrAt 1 cfg0.N = (m ((c.tc : Thread nD τ).loc main_arg0) : S240x2x120x256.Idx → Ideal .fp8e4m3) := by
  refine (dats m 0 c).arrAt_eq_of_covers 1 _ (by decide +kernel) fun t hf y => ?_
  blk_simp
  rw [after0_1]
  frame_out
  show iblk m c 0 t y = _
  blk_ext [iblk, V, index0 t, index1 t]

/-- The buffers when the host lines after the region begin. -/
abbrev W (c : Dev nD) : Valuation τ sig (Elt Ideal) :=
  Pipeline.withArrays spec0 c (V0 m c) (fun w => (dats m 0 c).arrAt w (cfgs 0).N)

theorem W_v0 (c : Dev nD) : W m c (Proc.devRef .tc main_v0) = (m ((c.tc : Thread nD τ).loc main_arg0) : S240x2x120x256.Idx → Ideal .fp8e4m3) :=
  (Pipeline.withArrays_arr spec0 launch0.win.arr_inj c (V0 m c) _ 1).trans (codes m c)
theorem W_arg1 (c : Dev nD) : W m c (Proc.devRef .tc main_arg1) = m ((c.tc : Thread nD τ).loc main_arg1) :=
  (Pipeline.withArrays_of_ne _ c (V0 m c) _ main_arg1 (by exact (by decide : ∀ w, Pipeline.arrRef spec0 w ≠ main_arg1))).trans (V_main_arg1 m c)
theorem W_arg2 (c : Dev nD) : W m c (Proc.devRef .tc main_arg2) = m ((c.tc : Thread nD τ).loc main_arg2) :=
  (Pipeline.withArrays_of_ne _ c (V0 m c) _ main_arg2 (by exact (by decide : ∀ w, Pipeline.arrRef spec0 w ≠ main_arg2))).trans (V_main_arg2 m c)
theorem W_arg3 (c : Dev nD) : W m c (Proc.devRef .tc main_arg3) = m ((c.tc : Thread nD τ).loc main_arg3) :=
  (Pipeline.withArrays_of_ne _ c (V0 m c) _ main_arg3 (by exact (by decide : ∀ w, Pipeline.arrRef spec0 w ≠ main_arg3))).trans (V_main_arg3 m c)

/-- The host lines on any buffers. -/
theorem tail0 (W : Valuation τ sig (Elt Ideal)) :
    StableHlo.after [hostOps1, hostOps1_1, hostOps1_2].flatten W (Proc.devRef .tc main_v32)
      = both (scaled (masked (W (Proc.devRef .tc main_v0))) (W (Proc.devRef .tc main_arg1)) (W (Proc.devRef .tc main_arg2))) := by
  simp only [List.flatten_cons, List.flatten_nil, List.append_nil, List.cons_append, List.nil_append, hostOps1, hostOps1_1, hostOps1_2]
  after_results <;> rfl
theorem tail1 (W : Valuation τ sig (Elt Ideal)) :
    StableHlo.after [hostOps1, hostOps1_1, hostOps1_2].flatten W (Proc.devRef .tc main_v46)
      = both (scaled (masked (W (Proc.devRef .tc main_v0))) (W (Proc.devRef .tc main_arg1)) (W (Proc.devRef .tc main_arg3))) := by
  simp only [List.flatten_cons, List.flatten_nil, List.append_nil, List.cons_append, List.nil_append, hostOps1, hostOps1_1, hostOps1_2]
  after_results <;> rfl

theorem both_eq (A0 : S240x2x120x256.Idx → Ideal .fp8e4m3) (A1 : FVec Ideal S240x2x256 .f32) (C : FVec Ideal S6x240x2x120x30 .bf16) :
    both (scaled (masked A0) A1 C) = result A0 A1 C := by
  funext y
  obtain ⟨b, M, h, tt, d, rfl⟩ : ∃ (b : Fin 6) (M : Fin 240) (h : Fin 2) (tt : Fin 256) (d : Fin 30), y = ix5 b M h tt d :=
    ⟨y 0, y 1, y 2, y 3, y 4, eq_ix5 y⟩
  rw [both_apply, scaled_apply, scaled_apply]
  rfl

/-- The run: both results at the specification, the arguments unchanged. -/
theorem run : θ_run defs (onTc (τ := τ) (main (F := Ideal))) ⟨m, fun _ => 0, ρ⟩ (fun r => ∀ c : Dev nD,
    r.2.mem ((c.tc : Thread nD τ).loc main_v32) = result (m ((c.tc : Thread nD τ).loc main_arg0)) (m ((c.tc : Thread nD τ).loc main_arg1))
      (m ((c.tc : Thread nD τ).loc main_arg2))
    ∧ r.2.mem ((c.tc : Thread nD τ).loc main_v46) = result (m ((c.tc : Thread nD τ).loc main_arg0)) (m ((c.tc : Thread nD τ).loc main_arg1))
      (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun _ h c =>
    ⟨((h c).2 main_v32 (Pipeline.mem_restRefs_of main_v32 (by decide) (by decide))).trans
        ((tail0 (W m c)).trans (by rw [W_v0, W_arg1, W_arg2]; exact both_eq _ _ _)),
      ((h c).2 main_v46 (Pipeline.mem_restRefs_of main_v46 (by decide) (by decide))).trans
        ((tail1 (W m c)).trans (by rw [W_v0, W_arg1, W_arg3]; exact both_eq _ _ _)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.ValueReference

end
-- ==== Proof.lean ====
module

public import proofs.«01_k».proof.Defs
public import proofs.«01_k».proof.Proof.FrameKernel
public import proofs.«01_k».proof.Proof.ValueIdeal
public import proofs.«01_k».proof.Proof.ValueReference
public import Idealize.ShloMosaic.Adequacy
public import Idealize.ShloMosaic.Init
public import Idealize.ShloMosaic.Lib.Bf16Pair

@[expose] public section

noncomputable section

namespace Cert.Proof

open Idealize.ShloMosaic Idealize.SL.Sem

/-- The rewritten sites' two statements: a pair of rows loaded as words, and the packed words stored. -/
theorem preserves : Cert.preserves_Kernel_KernelIdeal :=
  have h := IdealRules.bf16_pair.statement Cert.KernelIdeal.S1x8x2x128 Cert.KernelIdeal.S1x8x1x128
  have h' := IdealRules.bf16_pair.statement Cert.KernelIdeal.S16x128 Cert.KernelIdeal.S8x128
  ⟨h, h'⟩

/-- Both runs end at `Spec.result` of the arguments, which agree. -/
theorem algebraic : Cert.algebraic_KernelIdeal_ReferenceIdeal := by
  intro m g m' g' _ hagree
  refine ⟨_, _, (θ_run _ _ _).mono (fun r h => h.1) (Cert.ValueIdeal.run m g),
    (θ_run _ _ _).mono (fun r h c => ?_) (Cert.ValueReference.run m' g')⟩
  obtain ⟨h0, h1, ha⟩ := h c
  obtain ⟨a0, a1, a2, a3⟩ := hagree c
  refine ⟨h0.trans ?_, h1.trans ?_, ha⟩
  · rw [a0, a1, a2]
  · rw [a0, a1, a3]

theorem claim : Cert.Claim := ⟨Cert.Kernel.Gen.facts, Cert.KernelIdeal.Gen.facts, Cert.ReferenceIdeal.Gen.facts,
  fun m ρ _ => Cert.FrameKernel.frame m ρ, fun m ρ _ => (θ_run _ _ _).mono (fun _ h => ⟨fun c => (h.1 c).2.2, h.2⟩) (Cert.ValueIdeal.run m ρ),
  fun m ρ _ => Cert.ReferenceIdeal.Gen.frame m ρ, preserves, algebraic⟩

end Cert.Proof

end
